-- ==== Defs.lean ====
def Pre_Kernel [hPre_groups_fill : Cert.Pre_groups_fill.Facts] (m : (ℓ : Loc Cert.Kernel.nD Cert.Kernel.τ Cert.Kernel.sig) → Buf (Elt Bits) ℓ) : Prop :=
  ∀ c : Dev Cert.Kernel.nD,
    (Cert.Pre_groups_fill.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_fill : Cert.Pre_groups_fill.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_groups_fill : Cert.Pre_groups_fill.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fill.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_fill : Cert.Pre_groups_fill.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_fill : Cert.Pre_groups_fill.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_groups_fill : Cert.Pre_groups_fill.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_fill : Cert.Pre_groups_fill.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_fill : Cert.Pre_groups_fill.Facts),
    quiescent_Kernel (hKernel := hKernel) (hPre_groups_fill := hPre_groups_fill)
    ∧ quiescent_KernelIdeal (hKernelIdeal := hKernelIdeal) (hPre_groups_fill := hPre_groups_fill)
    ∧ quiescent_ReferenceIdeal (hReferenceIdeal := hReferenceIdeal) (hPre_groups_fill := hPre_groups_fill)
    ∧ preserves_Kernel_KernelIdeal
    ∧ algebraic_KernelIdeal_ReferenceIdeal (hKernelIdeal := hKernelIdeal) (hReferenceIdeal := hReferenceIdeal) (hPre_groups_fill := hPre_groups_fill)
-- ==== Pre_groups_fill.lean ====
abbrev S12288x5120 : Shape := ⟨2, ![12288, 5120]⟩
abbrev S8 : Shape := ⟨1, ![8]⟩
abbrev S8x5120x8192 : Shape := ⟨3, ![8, 5120, 8192]⟩
abbrev S8x40x64 : Shape := ⟨3, ![8, 40, 64]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S12288x5120 .bf16) (main_arg1 : IVec S8 32) (main_arg2 : FVec F S8x5120x8192 .fp8e4m3) (main_arg3 : FVec F S8x40x64 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 12288#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg1 main_c_2
  let main_c_3 : IVec S_ 32 := constantI S_ 32 12288#32
  let main_v7 : IVec S_ 1 := cmpi .eq main_v6 main_c_3
  let main_v8 : IVec S_ 1 := andi main_v5 main_v7
  main_v8
-- ==== Kernel.lean ====
abbrev S12288x5120 : Shape := ⟨2, ![12288, 5120]⟩
abbrev S8 : Shape := ⟨1, ![8]⟩
abbrev S8x5120x8192 : Shape := ⟨3, ![8, 5120, 8192]⟩
abbrev S8x40x64 : Shape := ⟨3, ![8, 40, 64]⟩
abbrev S_ : Shape := ⟨0, ![]⟩
abbrev S31 : Shape := ⟨1, ![31]⟩
abbrev S31x1 : Shape := ⟨2, ![31, 1]⟩
abbrev S1x8 : Shape := ⟨2, ![1, 8]⟩
abbrev S31x8 : Shape := ⟨2, ![31, 8]⟩
abbrev S1 : Shape := ⟨1, ![1]⟩
abbrev S30 : Shape := ⟨1, ![30]⟩
abbrev S20480 : Shape := ⟨1, ![20480]⟩
abbrev S12288x8192 : Shape := ⟨2, ![12288, 8192]⟩
abbrev S512x5120 : Shape := ⟨2, ![512, 5120]⟩
abbrev S1x5120x1024 : Shape := ⟨3, ![1, 5120, 1024]⟩
abbrev S512x1024 : Shape := ⟨2, ![512, 1024]⟩
abbrev S5120x1024 : Shape := ⟨2, ![5120, 1024]⟩
abbrev S128x128 : Shape := ⟨2, ![128, 128]⟩
abbrev S1x128x128 : Shape := ⟨3, ![1, 128, 128]⟩

abbrev nBuf : Space → Nat
  | .hbm => 149
  | .vmem => 7
  | .smem => 6
  | _ => 0

abbrev hbmTy0_0 (i : Nat) : BufTy := match i % 128 with
  | 0 => ⟨S12288x5120, .bf16⟩
  | 1 => ⟨S8, .i32⟩
  | 2 => ⟨S8x5120x8192, .fp8e4m3⟩
  | 3 => ⟨S8x40x64, .f32⟩
  | 4 => ⟨S_, .i32⟩
  | 5 => ⟨S_, .i32⟩
  | 6 => ⟨S8, .i32⟩
  | 7 => ⟨S8, .i32⟩
  | 8 => ⟨S_, .i32⟩
  | 9 => ⟨S_, .i32⟩
  | 10 => ⟨S8, .i32⟩
  | 11 => ⟨S8, .i32⟩
  | 12 => ⟨S8, .i32⟩
  | 13 => ⟨S_, .i32⟩
  | 14 => ⟨S8, .i32⟩
  | 15 => ⟨S8, .i1⟩
  | 16 => ⟨S8, .i32⟩
  | 17 => ⟨S8, .i32⟩
  | 18 => ⟨S_, .i32⟩
  | 19 => ⟨S8, .i32⟩
  | 20 => ⟨S8, .i1⟩
  | 21 => ⟨S8, .i1⟩
  | 22 => ⟨S_, .i32⟩
  | 23 => ⟨S8, .i32⟩
  | 24 => ⟨S8, .i32⟩
  | 25 => ⟨S8, .i32⟩
  | 26 => ⟨S_, .i32⟩
  | 27 => ⟨S8, .i32⟩
  | 28 => ⟨S8, .i1⟩
  | 29 => ⟨S_, .i32⟩
  | 30 => ⟨S8, .i32⟩
  | 31 => ⟨S8, .i32⟩
  | 32 => ⟨S_, .i32⟩
  | 33 => ⟨S_, .i32⟩
  | 34 => ⟨S8, .i32⟩
  | 35 => ⟨S8, .i32⟩
  | 36 => ⟨S8, .i32⟩
  | 37 => ⟨S_, .i32⟩
  | 38 => ⟨S8, .i32⟩
  | 39 => ⟨S8, .i1⟩
  | 40 => ⟨S8, .i32⟩
  | 41 => ⟨S8, .i32⟩
  | 42 => ⟨S_, .i32⟩
  | 43 => ⟨S8, .i32⟩
  | 44 => ⟨S8, .i1⟩
  | 45 => ⟨S8, .i1⟩
  | 46 => ⟨S_, .i32⟩
  | 47 => ⟨S8, .i32⟩
  | 48 => ⟨S8, .i32⟩
  | 49 => ⟨S8, .i32⟩
  | 50 => ⟨S8, .i32⟩
  | 51 => ⟨S_, .i32⟩
  | 52 => ⟨S8, .i32⟩
  | 53 => ⟨S8, .i32⟩
  | 54 => ⟨S_, .i32⟩
  | 55 => ⟨S_, .i32⟩
  | 56 => ⟨S8, .i32⟩
  | 57 => ⟨S8, .i32⟩
  | 58 => ⟨S_, .i32⟩
  | 59 => ⟨S_, .i32⟩
  | 60 => ⟨S8, .i32⟩
  | 61 => ⟨S31, .i32⟩
  | 62 => ⟨S31x1, .i32⟩
  | 63 => ⟨S1x8, .i32⟩
  | 64 => ⟨S31x8, .i32⟩
  | 65 => ⟨S31x8, .i32⟩
  | 66 => ⟨S31x8, .i1⟩
  | 67 => ⟨S31x8, .i32⟩
  | 68 => ⟨S_, .i32⟩
  | 69 => ⟨S31, .i32⟩
  | 70 => ⟨S_, .i32⟩
  | 71 => ⟨S31, .i32⟩
  | 72 => ⟨S31, .i1⟩
  | 73 => ⟨S_, .i32⟩
  | 74 => ⟨S8, .i32⟩
  | 75 => ⟨S8, .i1⟩
  | 76 => ⟨S8, .i32⟩
  | 77 => ⟨S_, .i32⟩
  | 78 => ⟨S_, .i32⟩
  | 79 => ⟨S8, .i32⟩
  | 80 => ⟨S8, .i32⟩
  | 81 => ⟨S_, .i32⟩
  | 82 => ⟨S_, .i32⟩
  | 83 => ⟨S31, .i32⟩
  | 84 => ⟨S_, .i32⟩
  | 85 => ⟨S31, .i32⟩
  | 86 => ⟨S31, .i1⟩
  | 87 => ⟨S_, .i32⟩
  | 88 => ⟨S31, .i32⟩
  | 89 => ⟨S31, .i32⟩
  | 90 => ⟨S31, .i32⟩
  | 91 => ⟨S31x1, .i32⟩
  | 92 => ⟨S31, .i32⟩
  | 93 => ⟨S31, .i32⟩
  | 94 => ⟨S_, .i32⟩
  | 95 => ⟨S31, .i32⟩
  | 96 => ⟨S31, .i1⟩
  | 97 => ⟨S_, .i32⟩
  | 98 => ⟨S31, .i32⟩
  | 99 => ⟨S31, .i32⟩
  | 100 => ⟨S31, .i32⟩
  | 101 => ⟨S31x1, .i32⟩
  | 102 => ⟨S31, .i32⟩
  | 103 => ⟨S_, .i32⟩
  | 104 => ⟨S31, .i32⟩
  | 105 => ⟨S31, .i1⟩
  | 106 => ⟨S_, .i32⟩
  | 107 => ⟨S31, .i32⟩
  | 108 => ⟨S31, .i32⟩
  | 109 => ⟨S31, .i32⟩
  | 110 => ⟨S31x1, .i32⟩
  | 111 => ⟨S31, .i32⟩
  | 112 => ⟨S31, .i32⟩
  | 113 => ⟨S31, .i32⟩
  | 114 => ⟨S_, .i32⟩
  | 115 => ⟨S_, .i32⟩
  | 116 => ⟨S31, .i32⟩
  | 117 => ⟨S_, .i32⟩
  | 118 => ⟨S31, .i32⟩
  | 119 => ⟨S31, .i1⟩
  | 120 => ⟨S_, .i32⟩
  | 121 => ⟨S31, .i32⟩
  | 122 => ⟨S31, .i32⟩
  | 123 => ⟨S31, .i32⟩
  | 124 => ⟨S31x1, .i32⟩
  | 125 => ⟨S31, .i32⟩
  | 126 => ⟨S_, .i32⟩
  | 127 => ⟨S_, .i32⟩
  | _ => ⟨S12288x5120, .bf16⟩

abbrev hbmTy0_1 (i : Nat) : BufTy := match i % 128 with
  | 0 => ⟨S31, .i32⟩
  | 1 => ⟨S_, .i32⟩
  | 2 => ⟨S31, .i32⟩
  | 3 => ⟨S31, .i1⟩
  | 4 => ⟨S_, .i32⟩
  | 5 => ⟨S31, .i32⟩
  | 6 => ⟨S31, .i32⟩
  | 7 => ⟨S31, .i32⟩
  | 8 => ⟨S31x1, .i32⟩
  | 9 => ⟨S31, .i32⟩
  | 10 => ⟨S_, .i32⟩
  | 11 => ⟨S_, .i32⟩
  | 12 => ⟨S31, .i32⟩
  | 13 => ⟨S_, .i32⟩
  | 14 => ⟨S1, .i32⟩
  | 15 => ⟨S30, .i32⟩
  | 16 => ⟨S30, .i32⟩
  | 17 => ⟨S30, .i1⟩
  | 18 => ⟨S30, .i32⟩
  | 19 => ⟨S20480, .f32⟩
  | 20 => ⟨S12288x8192, .bf16⟩
  | _ => ⟨S12288x5120, .bf16⟩

abbrev hbmTy (i : Nat) : BufTy := match i / 128 with
  | 0 => hbmTy0_0 i
  | 1 => hbmTy0_1 i
  | _ => ⟨S12288x5120, .bf16⟩

abbrev bufTy : (tb : Table) → Fin (tcTables nBuf tb) → BufTy
  | .hbm, ⟨i, _⟩ => hbmTy i
  | .local _ .vmem, ⟨0, _⟩ => ⟨S512x5120, .bf16⟩
  | .local _ .vmem, ⟨1, _⟩ => ⟨S512x5120, .bf16⟩
  | .local _ .vmem, ⟨2, _⟩ => ⟨S1x5120x1024, .fp8e4m3⟩
  | .local _ .vmem, ⟨3, _⟩ => ⟨S1x5120x1024, .fp8e4m3⟩
  | .local _ .vmem, ⟨4, _⟩ => ⟨S512x1024, .bf16⟩
  | .local _ .vmem, ⟨5, _⟩ => ⟨S512x1024, .bf16⟩
  | .local _ .vmem, ⟨6, _⟩ => ⟨S5120x1024, .bf16⟩
  | .local _ .smem, ⟨0, _⟩ => ⟨S31, .i32⟩
  | .local _ .smem, ⟨1, _⟩ => ⟨S31, .i32⟩
  | .local _ .smem, ⟨2, _⟩ => ⟨S31, .i32⟩
  | .local _ .smem, ⟨3, _⟩ => ⟨S31, .i32⟩
  | .local _ .smem, ⟨4, _⟩ => ⟨S31, .i32⟩
  | .local _ .smem, ⟨5, _⟩ => ⟨S20480, .f32⟩
  | _, _ => ⟨S12288x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_c_5 : Ref sig .tc := ⟨.hbm, 68, rfl⟩
abbrev main_v20 : Ref sig .tc := ⟨.hbm, 69, rfl⟩
abbrev main_c_6 : Ref sig .tc := ⟨.hbm, 70, rfl⟩
abbrev main_v21 : Ref sig .tc := ⟨.hbm, 71, rfl⟩
abbrev main_v22 : Ref sig .tc := ⟨.hbm, 72, rfl⟩
abbrev main_c_7 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c_8 : Ref sig .tc := ⟨.hbm, 77, rfl⟩
abbrev main_call5_v0 : Ref sig .tc := ⟨.hbm, 78, rfl⟩
abbrev main_call5_v1 : Ref sig .tc := ⟨.hbm, 79, rfl⟩
abbrev main_v26 : Ref sig .tc := ⟨.hbm, 80, rfl⟩
abbrev main_c_9 : Ref sig .tc := ⟨.hbm, 81, rfl⟩
abbrev main_v27 : Ref sig .tc := ⟨.hbm, 82, rfl⟩
abbrev main_call6_v0 : Ref sig .tc := ⟨.hbm, 83, rfl⟩
abbrev main_c_10 : Ref sig .tc := ⟨.hbm, 84, rfl⟩
abbrev main_v29 : Ref sig .tc := ⟨.hbm, 85, rfl⟩
abbrev main_v30 : Ref sig .tc := ⟨.hbm, 86, rfl⟩
abbrev main_c_11 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_c_12 : Ref sig .tc := ⟨.hbm, 94, rfl⟩
abbrev main_v37 : Ref sig .tc := ⟨.hbm, 95, rfl⟩
abbrev main_v38 : Ref sig .tc := ⟨.hbm, 96, rfl⟩
abbrev main_c_13 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_c_14 : Ref sig .tc := ⟨.hbm, 103, rfl⟩
abbrev main_v44 : Ref sig .tc := ⟨.hbm, 104, rfl⟩
abbrev main_v45 : Ref sig .tc := ⟨.hbm, 105, rfl⟩
abbrev main_c_15 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_c_16 : Ref sig .tc := ⟨.hbm, 114, rfl⟩
abbrev main_call7_v0 : Ref sig .tc := ⟨.hbm, 115, rfl⟩
abbrev main_call7_v1 : Ref sig .tc := ⟨.hbm, 116, rfl⟩
abbrev main_c_17 : Ref sig .tc := ⟨.hbm, 117, rfl⟩
abbrev main_v54 : Ref sig .tc := ⟨.hbm, 118, rfl⟩
abbrev main_v55 : Ref sig .tc := ⟨.hbm, 119, rfl⟩
abbrev main_c_18 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_c_19 : Ref sig .tc := ⟨.hbm, 126, rfl⟩
abbrev main_call8_v0 : Ref sig .tc := ⟨.hbm, 127, rfl⟩
abbrev main_call8_v1 : Ref sig .tc := ⟨.hbm, 128, rfl⟩
abbrev main_c_20 : Ref sig .tc := ⟨.hbm, 129, rfl⟩
abbrev main_v62 : Ref sig .tc := ⟨.hbm, 130, rfl⟩
abbrev main_v63 : Ref sig .tc := ⟨.hbm, 131, rfl⟩
abbrev main_c_21 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_c_22 : Ref sig .tc := ⟨.hbm, 138, rfl⟩
abbrev main_call9_v0 : Ref sig .tc := ⟨.hbm, 139, rfl⟩
abbrev main_call9_v1 : Ref sig .tc := ⟨.hbm, 140, rfl⟩
abbrev main_c_23 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v76 : Ref sig .tc := ⟨.hbm, 147, rfl⟩
abbrev main_v77 : Ref sig .tc := ⟨.hbm, 148, rfl⟩
abbrev main_v53 : Ref sig .tc := ⟨.smem, 0, rfl⟩
abbrev main_v28 : Ref sig .tc := ⟨.smem, 1, rfl⟩
abbrev main_v61 : Ref sig .tc := ⟨.smem, 2, rfl⟩
abbrev main_v69 : Ref sig .tc := ⟨.smem, 3, rfl⟩
abbrev main_v75 : Ref sig .tc := ⟨.smem, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 31], ![false, false]⟩

abbrev pre0 : Pipeline.Prefetch sig := ⟨5, ![main_v53.idx, main_v28.idx, main_v61.idx, main_v69.idx, main_v75.idx], fun | 0 => main_v53.names | 1 => main_v28.names | 2 => main_v61.names | 3 => main_v69.names | 4 => main_v75.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_1 : BitVec 32 := 0#32
  let c40_i32 : BitVec 32 := 40#32
  let v16 : BitVec 32 := Scalar.addi c0_i32_1 c40_i32
  let c1_i32_2 : BitVec 32 := 1#32
  ⟨c0_i32_1, v16, c1_i32_2⟩
def k0_off2 (i : grid0.Coords) (v5 : BitVec 32) (k0_t1 : Fin k0_t1_loop.trips) (c0_i32_5 : BitVec 32) : Fin 1 → Nat :=
  let c40_i32_4 : BitVec 32 := 40#32
  let v17 : BitVec 32 := Scalar.muli v5 c40_i32_4
  let c0_i32_1 : BitVec 32 := 0#32
  let c1_i32_2 : BitVec 32 := 1#32
  let arg12 : BitVec 32 := Scf.iv c0_i32_1 c1_i32_2 k0_t1
  let v18 : BitVec 32 := Scalar.addi v17 arg12
  let c64_i32 : BitVec 32 := 64#32
  let v19 : BitVec 32 := Scalar.muli v18 c64_i32
  let arg0 : BitVec 32 := BitVec.ofNat 32 (i 0).val
  let c8_i32 : BitVec 32 := 8#32
  let v20 : BitVec 32 := Scalar.muli arg0 c8_i32
  let v21 : BitVec 32 := Scalar.addi v19 v20
  let v22 : BitVec 32 := Scalar.addi v21 c0_i32_5
  let v23 : Index := Scalar.indexCast v22
  ![v23.toNat]
def k0_cond1 (v1 : BitVec 32) (v3 : BitVec 32) (v8 : BitVec 32) : BitVec 1 :=
  let v6 : BitVec 1 := Scalar.cmpi .sgt v3 v1
  let c1_i32 : BitVec 32 := 1#32
  let v9 : BitVec 1 := Scalar.cmpi .eq v8 c1_i32
  let v10 : BitVec 1 := Scalar.andi v6 v9
  let v11 : BitVec 32 := Scalar.extui v10
  let c0_i32 : BitVec 32 := 0#32
  let v12 : BitVec 1 := Scalar.cmpi .ne v11 c0_i32
  v12

def k0_chk1 (i : grid0.Coords) (v1 : BitVec 32) (v3 : BitVec 32) (v5 : BitVec 32) (v8 : BitVec 32) : Prop :=
  (∀ k0_t1 : Fin k0_t1_loop.trips, ∀ (k0_h1 : k0_cond1 v1 v3 v8 = 1#1), ∀ (r : Fin 8), ∀ a, (k0_off2 i v5 k0_t1 (BitVec.ofNat 32 r.val)) a + S1.size a ≤ S20480.size a)
theorem k0_off2_inb : ∀ (i : grid0.Coords) (v1 : BitVec 32) (v3 : BitVec 32) (v5 : BitVec 32) (v8 : BitVec 32) (k0_hw1 : k0_chk1 i v1 v3 v5 v8) (k0_t1 : Fin k0_t1_loop.trips), ∀ (k0_h1 : k0_cond1 v1 v3 v8 = 1#1), ∀ (r : Fin 8), ∀ a, (k0_off2 i v5 k0_t1 (BitVec.ofNat 32 r.val)) a + S1.size a ≤ S20480.size a := fun i v1 v3 v5 v8 k0_hw1 k0_t1 k0_h1 r => k0_hw1 k0_t1 k0_h1 r

def k0_mult1 (k0_t1 : Fin k0_t1_loop.trips) : BitVec 32 :=
  let c0_i32_1 : BitVec 32 := 0#32
  let c1_i32_2 : BitVec 32 := 1#32
  let arg12 : BitVec 32 := Scf.iv c0_i32_1 c1_i32_2 k0_t1
  let c128_i32 : BitVec 32 := 128#32
  let v27 : BitVec 32 := Scalar.muli arg12 c128_i32
  v27
def k0_off3 (k0_t1 : Fin k0_t1_loop.trips) : Fin 3 → Nat :=
  let c0 : Index := 0#32
  let c0_i32_1 : BitVec 32 := 0#32
  let c1_i32_2 : BitVec 32 := 1#32
  let arg12 : BitVec 32 := Scf.iv c0_i32_1 c1_i32_2 k0_t1
  let c128_i32 : BitVec 32 := 128#32
  let v27 : BitVec 32 := Scalar.muli arg12 c128_i32
  let v28 : BitVec 32 := v27
  let v29 : Index := Scalar.indexCast v28
  let c0_6 : Index := 0#32
  ![0, v29.toNat, 0]
def k0_off4 (k0_t1 : Fin k0_t1_loop.trips) : Fin 2 → Nat :=
  let c0_i32_1 : BitVec 32 := 0#32
  let c1_i32_2 : BitVec 32 := 1#32
  let arg12 : BitVec 32 := Scf.iv c0_i32_1 c1_i32_2 k0_t1
  let c128_i32 : BitVec 32 := 128#32
  let v27 : BitVec 32 := Scalar.muli arg12 c128_i32
  let v28 : BitVec 32 := v27
  let v34 : Index := Scalar.indexCast v28
  let c0_7 : Index := 0#32
  ![v34.toNat, 0]
def k0_mult2 (k0_t1 : Fin k0_t1_loop.trips) : BitVec 32 :=
  let c0_i32_1 : BitVec 32 := 0#32
  let c1_i32_2 : BitVec 32 := 1#32
  let arg12 : BitVec 32 := Scf.iv c0_i32_1 c1_i32_2 k0_t1
  let c128_i32_12 : BitVec 32 := 128#32
  let v48 : BitVec 32 := Scalar.muli arg12 c128_i32_12
  v48
def k0_off5 (k0_t1 : Fin k0_t1_loop.trips) : Fin 3 → Nat :=
  let c0_13 : Index := 0#32
  let c0_i32_1 : BitVec 32 := 0#32
  let c1_i32_2 : BitVec 32 := 1#32
  let arg12 : BitVec 32 := Scf.iv c0_i32_1 c1_i32_2 k0_t1
  let c128_i32_12 : BitVec 32 := 128#32
  let v48 : BitVec 32 := Scalar.muli arg12 c128_i32_12
  let v49 : BitVec 32 := v48
  let v50 : Index := Scalar.indexCast v49
  let c128 : Index := 128#32
  ![0, v50.toNat, 128]
def k0_off6 (k0_t1 : Fin k0_t1_loop.trips) : Fin 2 → Nat :=
  let c0_i32_1 : BitVec 32 := 0#32
  let c1_i32_2 : BitVec 32 := 1#32
  let arg12 : BitVec 32 := Scf.iv c0_i32_1 c1_i32_2 k0_t1
  let c128_i32_12 : BitVec 32 := 128#32
  let v48 : BitVec 32 := Scalar.muli arg12 c128_i32_12
  let v49 : BitVec 32 := v48
  let v55 : Index := Scalar.indexCast v49
  let c128_14 : Index := 128#32
  ![v55.toNat, 128]
def k0_mult3 (k0_t1 : Fin k0_t1_loop.trips) : BitVec 32 :=
  let c0_i32_1 : BitVec 32 := 0#32
  let c1_i32_2 : BitVec 32 := 1#32
  let arg12 : BitVec 32 := Scf.iv c0_i32_1 c1_i32_2 k0_t1
  let c128_i32_18 : BitVec 32 := 128#32
  let v69 : BitVec 32 := Scalar.muli arg12 c128_i32_18
  v69
def k0_off7 (k0_t1 : Fin k0_t1_loop.trips) : Fin 3 → Nat :=
  let c0_19 : Index := 0#32
  let c0_i32_1 : BitVec 32 := 0#32
  let c1_i32_2 : BitVec 32 := 1#32
  let arg12 : BitVec 32 := Scf.iv c0_i32_1 c1_i32_2 k0_t1
  let c128_i32_18 : BitVec 32 := 128#32
  let v69 : BitVec 32 := Scalar.muli arg12 c128_i32_18
  let v70 : BitVec 32 := v69
  let v71 : Index := Scalar.indexCast v70
  let c256 : Index := 256#32
  ![0, v71.toNat, 256]
def k0_off8 (k0_t1 : Fin k0_t1_loop.trips) : Fin 2 → Nat :=
  let c0_i32_1 : BitVec 32 := 0#32
  let c1_i32_2 : BitVec 32 := 1#32
  let arg12 : BitVec 32 := Scf.iv c0_i32_1 c1_i32_2 k0_t1
  let c128_i32_18 : BitVec 32 := 128#32
  let v69 : BitVec 32 := Scalar.muli arg12 c128_i32_18
  let v70 : BitVec 32 := v69
  let v76 : Index := Scalar.indexCast v70
  let c256_20 : Index := 256#32
  ![v76.toNat, 256]
def k0_mult4 (k0_t1 : Fin k0_t1_loop.trips) : BitVec 32 :=
  let c0_i32_1 : BitVec 32 := 0#32
  let c1_i32_2 : BitVec 32 := 1#32
  let arg12 : BitVec 32 := Scf.iv c0_i32_1 c1_i32_2 k0_t1
  let c128_i32_24 : BitVec 32 := 128#32
  let v90 : BitVec 32 := Scalar.muli arg12 c128_i32_24
  v90
def k0_off9 (k0_t1 : Fin k0_t1_loop.trips) : Fin 3 → Nat :=
  let c0_25 : Index := 0#32
  let c0_i32_1 : BitVec 32 := 0#32
  let c1_i32_2 : BitVec 32 := 1#32
  let arg12 : BitVec 32 := Scf.iv c0_i32_1 c1_i32_2 k0_t1
  let c128_i32_24 : BitVec 32 := 128#32
  let v90 : BitVec 32 := Scalar.muli arg12 c128_i32_24
  let v91 : BitVec 32 := v90
  let v92 : Index := Scalar.indexCast v91
  let c384 : Index := 384#32
  ![0, v92.toNat, 384]
def k0_off10 (k0_t1 : Fin k0_t1_loop.trips) : Fin 2 → Nat :=
  let c0_i32_1 : BitVec 32 := 0#32
  let c1_i32_2 : BitVec 32 := 1#32
  let arg12 : BitVec 32 := Scf.iv c0_i32_1 c1_i32_2 k0_t1
  let c128_i32_24 : BitVec 32 := 128#32
  let v90 : BitVec 32 := Scalar.muli arg12 c128_i32_24
  let v91 : BitVec 32 := v90
  let v97 : Index := Scalar.indexCast v91
  let c384_26 : Index := 384#32
  ![v97.toNat, 384]
def k0_mult5 (k0_t1 : Fin k0_t1_loop.trips) : BitVec 32 :=
  let c0_i32_1 : BitVec 32 := 0#32
  let c1_i32_2 : BitVec 32 := 1#32
  let arg12 : BitVec 32 := Scf.iv c0_i32_1 c1_i32_2 k0_t1
  let c128_i32_30 : BitVec 32 := 128#32
  let v111 : BitVec 32 := Scalar.muli arg12 c128_i32_30
  v111
def k0_off11 (k0_t1 : Fin k0_t1_loop.trips) : Fin 3 → Nat :=
  let c0_31 : Index := 0#32
  let c0_i32_1 : BitVec 32 := 0#32
  let c1_i32_2 : BitVec 32 := 1#32
  let arg12 : BitVec 32 := Scf.iv c0_i32_1 c1_i32_2 k0_t1
  let c128_i32_30 : BitVec 32 := 128#32
  let v111 : BitVec 32 := Scalar.muli arg12 c128_i32_30
  let v112 : BitVec 32 := v111
  let v113 : Index := Scalar.indexCast v112
  let c512 : Index := 512#32
  ![0, v113.toNat, 512]
def k0_off12 (k0_t1 : Fin k0_t1_loop.trips) : Fin 2 → Nat :=
  let c0_i32_1 : BitVec 32 := 0#32
  let c1_i32_2 : BitVec 32 := 1#32
  let arg12 : BitVec 32 := Scf.iv c0_i32_1 c1_i32_2 k0_t1
  let c128_i32_30 : BitVec 32 := 128#32
  let v111 : BitVec 32 := Scalar.muli arg12 c128_i32_30
  let v112 : BitVec 32 := v111
  let v118 : Index := Scalar.indexCast v112
  let c512_32 : Index := 512#32
  ![v118.toNat, 512]
def k0_mult6 (k0_t1 : Fin k0_t1_loop.trips) : BitVec 32 :=
  let c0_i32_1 : BitVec 32 := 0#32
  let c1_i32_2 : BitVec 32 := 1#32
  let arg12 : BitVec 32 := Scf.iv c0_i32_1 c1_i32_2 k0_t1
  let c128_i32_36 : BitVec 32 := 128#32
  let v132 : BitVec 32 := Scalar.muli arg12 c128_i32_36
  v132
def k0_off13 (k0_t1 : Fin k0_t1_loop.trips) : Fin 3 → Nat :=
  let c0_37 : Index := 0#32
  let c0_i32_1 : BitVec 32 := 0#32
  let c1_i32_2 : BitVec 32 := 1#32
  let arg12 : BitVec 32 := Scf.iv c0_i32_1 c1_i32_2 k0_t1
  let c128_i32_36 : BitVec 32 := 128#32
  let v132 : BitVec 32 := Scalar.muli arg12 c128_i32_36
  let v133 : BitVec 32 := v132
  let v134 : Index := Scalar.indexCast v133
  let c640 : Index := 640#32
  ![0, v134.toNat, 640]
def k0_off14 (k0_t1 : Fin k0_t1_loop.trips) : Fin 2 → Nat :=
  let c0_i32_1 : BitVec 32 := 0#32
  let c1_i32_2 : BitVec 32 := 1#32
  let arg12 : BitVec 32 := Scf.iv c0_i32_1 c1_i32_2 k0_t1
  let c128_i32_36 : BitVec 32 := 128#32
  let v132 : BitVec 32 := Scalar.muli arg12 c128_i32_36
  let v133 : BitVec 32 := v132
  let v139 : Index := Scalar.indexCast v133
  let c640_38 : Index := 640#32
  ![v139.toNat, 640]
def k0_mult7 (k0_t1 : Fin k0_t1_loop.trips) : BitVec 32 :=
  let c0_i32_1 : BitVec 32 := 0#32
  let c1_i32_2 : BitVec 32 := 1#32
  let arg12 : BitVec 32 := Scf.iv c0_i32_1 c1_i32_2 k0_t1
  let c128_i32_42 : BitVec 32 := 128#32
  let v153 : BitVec 32 := Scalar.muli arg12 c128_i32_42
  v153
def k0_off15 (k0_t1 : Fin k0_t1_loop.trips) : Fin 3 → Nat :=
  let c0_43 : Index := 0#32
  let c0_i32_1 : BitVec 32 := 0#32
  let c1_i32_2 : BitVec 32 := 1#32
  let arg12 : BitVec 32 := Scf.iv c0_i32_1 c1_i32_2 k0_t1
  let c128_i32_42 : BitVec 32 := 128#32
  let v153 : BitVec 32 := Scalar.muli arg12 c128_i32_42
  let v154 : BitVec 32 := v153
  let v155 : Index := Scalar.indexCast v154
  let c768 : Index := 768#32
  ![0, v155.toNat, 768]
def k0_off16 (k0_t1 : Fin k0_t1_loop.trips) : Fin 2 → Nat :=
  let c0_i32_1 : BitVec 32 := 0#32
  let c1_i32_2 : BitVec 32 := 1#32
  let arg12 : BitVec 32 := Scf.iv c0_i32_1 c1_i32_2 k0_t1
  let c128_i32_42 : BitVec 32 := 128#32
  let v153 : BitVec 32 := Scalar.muli arg12 c128_i32_42
  let v154 : BitVec 32 := v153
  let v160 : Index := Scalar.indexCast v154
  let c768_44 : Index := 768#32
  ![v160.toNat, 768]
def k0_mult8 (k0_t1 : Fin k0_t1_loop.trips) : BitVec 32 :=
  let c0_i32_1 : BitVec 32 := 0#32
  let c1_i32_2 : BitVec 32 := 1#32
  let arg12 : BitVec 32 := Scf.iv c0_i32_1 c1_i32_2 k0_t1
  let c128_i32_48 : BitVec 32 := 128#32
  let v174 : BitVec 32 := Scalar.muli arg12 c128_i32_48
  v174
def k0_off17 (k0_t1 : Fin k0_t1_loop.trips) : Fin 3 → Nat :=
  let c0_49 : Index := 0#32
  let c0_i32_1 : BitVec 32 := 0#32
  let c1_i32_2 : BitVec 32 := 1#32
  let arg12 : BitVec 32 := Scf.iv c0_i32_1 c1_i32_2 k0_t1
  let c128_i32_48 : BitVec 32 := 128#32
  let v174 : BitVec 32 := Scalar.muli arg12 c128_i32_48
  let v175 : BitVec 32 := v174
  let v176 : Index := Scalar.indexCast v175
  let c896 : Index := 896#32
  ![0, v176.toNat, 896]
def k0_off18 (k0_t1 : Fin k0_t1_loop.trips) : Fin 2 → Nat :=
  let c0_i32_1 : BitVec 32 := 0#32
  let c1_i32_2 : BitVec 32 := 1#32
  let arg12 : BitVec 32 := Scf.iv c0_i32_1 c1_i32_2 k0_t1
  let c128_i32_48 : BitVec 32 := 128#32
  let v174 : BitVec 32 := Scalar.muli arg12 c128_i32_48
  let v175 : BitVec 32 := v174
  let v181 : Index := Scalar.indexCast v175
  let c896_50 : Index := 896#32
  ![v181.toNat, 896]
def k0_off19 (i : grid0.Coords) : Fin 1 → Nat :=
  let arg1 : BitVec 32 := BitVec.ofNat 32 (i 1).val
  let v20 : Index := Scalar.indexCast arg1
  ![v20.toNat]
def k0_cond2 (v1 : BitVec 32) (v3 : BitVec 32) : BitVec 1 :=
  let v13 : BitVec 1 := Scalar.cmpi .sgt v3 v1
  let v14 : BitVec 32 := Scalar.extui v13
  let c0_i32_0 : BitVec 32 := 0#32
  let v15 : BitVec 1 := Scalar.cmpi .ne v14 c0_i32_0
  v15

def k0_cond3 (v1 : BitVec 32) (v3 : BitVec 32) (v21 : BitVec 32) : BitVec 1 :=
  let c512_i32 : BitVec 32 := 512#32
  let v22 : BitVec 32 := Scalar.muli v21 c512_i32
  let v23 : BitVec 1 := Scalar.cmpi .sle v1 v22
  let c512_i32_4 : BitVec 32 := 512#32
  let v24 : BitVec 32 := Scalar.addi v22 c512_i32_4
  let v25 : BitVec 1 := Scalar.cmpi .sge v3 v24
  let v26 : BitVec 1 := Scalar.andi v23 v25
  let v27 : BitVec 32 := Scalar.extui v26
  let c0_i32_5 : BitVec 32 := 0#32
  let v28 : BitVec 1 := Scalar.cmpi .ne v27 c0_i32_5
  v28

def k0_cond4 (v1 : BitVec 32) (v3 : BitVec 32) (v21 : BitVec 32) : BitVec 1 :=
  let c512_i32 : BitVec 32 := 512#32
  let v22 : BitVec 32 := Scalar.muli v21 c512_i32
  let v23 : BitVec 1 := Scalar.cmpi .sle v1 v22
  let c512_i32_4 : BitVec 32 := 512#32
  let v24 : BitVec 32 := Scalar.addi v22 c512_i32_4
  let v25 : BitVec 1 := Scalar.cmpi .sge v3 v24
  let v26 : BitVec 1 := Scalar.andi v23 v25
  let v_true : BitVec 1 := 1#1
  let v29 : BitVec 1 := Scalar.xori v26 v_true
  let v30 : BitVec 32 := Scalar.extui v29
  let c0_i32_6 : BitVec 32 := 0#32
  let v31 : BitVec 1 := Scalar.cmpi .ne v30 c0_i32_6
  v31

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S31.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S31) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S31.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S31) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S31.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S31) ![v0.toNat] S1.size (k0_off1_inb i)) numel1_S1
  let c0_i32 : BitVec 32 := 0#32
  ![v1.toNat, arg0.toNat]

abbrev stage0_0 : Fin 1 → Memref sig .tc .smem S20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5120x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S12288x5120 : Shape := ⟨2, ![12288, 5120]⟩
abbrev S8 : Shape := ⟨1, ![8]⟩
abbrev S8x5120x8192 : Shape := ⟨3, ![8, 5120, 8192]⟩
abbrev S8x40x64 : Shape := ⟨3, ![8, 40, 64]⟩
abbrev S8x40x128x64x128 : Shape := ⟨5, ![8, 40, 128, 64, 128]⟩
abbrev S8x40x1x64x1 : Shape := ⟨5, ![8, 40, 1, 64, 1]⟩
abbrev S12288 : Shape := ⟨1, ![12288]⟩
abbrev S_ : Shape := ⟨0, ![]⟩
abbrev S8x1 : Shape := ⟨2, ![8, 1]⟩
abbrev S1x12288 : Shape := ⟨2, ![1, 12288]⟩
abbrev S8x12288 : Shape := ⟨2, ![8, 12288]⟩
abbrev S8x12288x1 : Shape := ⟨3, ![8, 12288, 1]⟩
abbrev S1x12288x5120 : Shape := ⟨3, ![1, 12288, 5120]⟩
abbrev S8x12288x5120 : Shape := ⟨3, ![8, 12288, 5120]⟩
abbrev S12288x8192 : Shape := ⟨2, ![12288, 8192]⟩

abbrev nBuf : Space → Nat
  | .hbm => 37
  | .vmem => 2
  | .smem => 0
  | _ => 0

abbrev bufTy : (tb : Table) → Fin (tcTables nBuf tb) → BufTy
  | .hbm, ⟨0, _⟩ => ⟨S12288x5120, .bf16⟩
  | .hbm, ⟨1, _⟩ => ⟨S8, .i32⟩
  | .hbm, ⟨2, _⟩ => ⟨S8x5120x8192, .fp8e4m3⟩
  | .hbm, ⟨3, _⟩ => ⟨S8x40x64, .f32⟩
  | .hbm, ⟨4, _⟩ => ⟨S8x5120x8192, .bf16⟩
  | .hbm, ⟨5, _⟩ => ⟨S8x40x128x64x128, .bf16⟩
  | .hbm, ⟨6, _⟩ => ⟨S8x40x64, .bf16⟩
  | .hbm, ⟨7, _⟩ => ⟨S8x40x1x64x1, .bf16⟩
  | .hbm, ⟨8, _⟩ => ⟨S8x40x128x64x128, .bf16⟩
  | .hbm, ⟨9, _⟩ => ⟨S8x40x128x64x128, .bf16⟩
  | .hbm, ⟨10, _⟩ => ⟨S8x5120x8192, .bf16⟩
  | .hbm, ⟨11, _⟩ => ⟨S12288, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8x1, .i32⟩
  | .hbm, ⟨17, _⟩ => ⟨S1x12288, .i32⟩
  | .hbm, ⟨18, _⟩ => ⟨S8x12288, .i32⟩
  | .hbm, ⟨19, _⟩ => ⟨S8x12288, .i32⟩
  | .hbm, ⟨20, _⟩ => ⟨S8x12288, .i1⟩
  | .hbm, ⟨21, _⟩ => ⟨S8x1, .i32⟩
  | .hbm, ⟨22, _⟩ => ⟨S1x12288, .i32⟩
  | .hbm, ⟨23, _⟩ => ⟨S8x12288, .i32⟩
  | .hbm, ⟨24, _⟩ => ⟨S8x12288, .i32⟩
  | .hbm, ⟨25, _⟩ => ⟨S8x12288, .i1⟩
  | .hbm, ⟨26, _⟩ => ⟨S8x12288, .i1⟩
  | .hbm, ⟨27, _⟩ => ⟨S8x12288x1, .i1⟩
  | .hbm, ⟨28, _⟩ => ⟨S1x12288x5120, .bf16⟩
  | .hbm, ⟨29, _⟩ => ⟨S_, .i32⟩
  | .hbm, ⟨30, _⟩ => ⟨S_, .bf16⟩
  | .hbm, ⟨31, _⟩ => ⟨S8x12288x5120, .i1⟩
  | .hbm, ⟨32, _⟩ => ⟨S8x12288x5120, .bf16⟩
  | .hbm, ⟨33, _⟩ => ⟨S8x12288x5120, .bf16⟩
  | .hbm, ⟨34, _⟩ => ⟨S8x12288x5120, .bf16⟩
  | .hbm, ⟨35, _⟩ => ⟨S12288x8192, .f32⟩
  | .hbm, ⟨36, _⟩ => ⟨S12288x8192, .bf16⟩
  | .local _ .vmem, ⟨0, _⟩ => ⟨S8x5120x8192, .fp8e4m3⟩
  | .local _ .vmem, ⟨1, _⟩ => ⟨S8x5120x8192, .bf16⟩
  | _, _ => ⟨S12288x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x5120x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x5120x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KBody.lean ====
/-
  The kernel body. Its counted loop: one trip writes the eight 128x128 blocks of one row of weight blocks, each the
  dequantised weights there, so that after the forty trips the scratch holds the dequantised weights of one expert's
  column tile.
-/
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.ValueIdx
public import Idealize.ShloMosaic.Lib.ValueLayout
public import Idealize.ShloMosaic.Lib.Pointwise
public import Idealize.ShloMosaic.Lib.VecWindow

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The place of the scale of expert `e`, column tile `n`, at row `r` and column `c` of the tile. -/
def sAt (n e r c : Nat) : S20480.Idx := ValueIdx.ix1 ⟨((e * 40 + r / 128) * 64 + n * 8 + c / 128) % 20480, Nat.mod_lt _ (by decide)⟩

/-- The dequantised weights of expert `e`, column tile `n`: each weight, as bf16, times its block's scale, as bf16. -/
def dq (n e : Nat) (S : S20480.Idx → Elt F .f32) (W : S1x5120x1024.Idx → Elt F .fp8e4m3) : FVec F S5120x1024 .bf16 :=
  mulf (extf .bf16 (show FVec F S5120x1024 .fp8e4m3 from fun y => W (ValueIdx.ix3 0 (y 0) (y 1))) bitsLt_fp8e4m3_bf16)
    (truncf .bf16 (show FVec F S5120x1024 .f32 from fun y => S (sAt n e (y 0).val (y 1).val)) bitsLt_bf16_f32)

/-- The class of the loop's invariants. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole) (arg0 : BitVec 32) (v1 : Elt F .i32) (v3 : Elt F .i32) (v5 : Elt F .i32) (v8 : Elt F .i32) (k0_hw1 : k0_chk1 i v1 v3 v5 v8) (k0_h1 : k0_cond1 v1 v3 v8 = 1#1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg0 v1 v3 v5 v8 k0_hw1 k0_h1)

/-- One trip's resources: what it reads at its contents, what it writes at any. -/
abbrev Trip_k0_t1 (c : Dev nD) (arg7 : Memref sig .tc .smem S20480 .f32) (arg9 : Memref sig .tc .vmem S1x5120x1024 .fp8e4m3) (arg11 : Memref sig .tc .vmem S5120x1024 .bf16) (X_arg7 : BufTy.Contents (Elt F) arg7.view.ty) (X_arg9 : BufTy.Contents (Elt F) arg9.view.ty) (f_arg11 : BufTy.Contents (Elt F) arg11.view.ty) : sProp 𝕄G :=
  iprop((arg7.view.loc (c : Thread nD τ) ↦[arg7.view.set]{fullShare} X_arg7) ∗ (arg9.view.loc (c : Thread nD τ) ↦[arg9.view.set]{fullShare} X_arg9) ∗ (arg11.view.loc (c : Thread nD τ) ↦[arg11.view.set]{fullShare} f_arg11))

/-- One trip, with the pieces that it writes. -/
def tripD (𝒱 : Variants) (c : Dev nD) (bd : Option 𝒱.V) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole) (arg0 : BitVec 32) (v1 : Elt F .i32) (v3 : Elt F .i32) (v5 : Elt F .i32) (v8 : Elt F .i32) (k0_hw1 : k0_chk1 i v1 v3 v5 v8) (k0_h1 : k0_cond1 v1 v3 v8 = 1#1) (X_arg7 : BufTy.Contents (Elt F) arg7.view.ty) (X_arg9 : BufTy.Contents (Elt F) arg9.view.ty) (k : Fin k0_t1_loop.trips) :
    { L_arg11 : List (View.Piece (Elt F) S5120x1024 .bf16) // ∀ (E : Set ℕ) (f_arg11 : BufTy.Contents (Elt F) arg11.view.ty),
      Trip_k0_t1 (F := F) c arg7 arg9 arg11 X_arg7 X_arg9 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg0 v1 v3 v5 v8 k0_hw1 k0_h1 k PUnit.unit)
          (fun _ => Trip_k0_t1 (F := F) c arg7 arg9 arg11 X_arg7 X_arg9 (arg11.view.writes (Elt F) f_arg11 L_arg11)) } := by
  have hk : k.val < 40 := Nat.lt_of_lt_of_le k.isLt k0_t1_abs.2.1
  refine ⟨?_, fun E f_arg11 => ?run⟩
  case run =>
    unfold k0_t1_body
    iintro ⟨HR_arg7, HR_arg9, HW_arg11⟩
    sl_exec
    sl_step
    sl_close

/-- The scale's offset in numbers. -/
theorem off2_val (i : grid0.Coords) (v5 : BitVec 32) (he : v5.toNat < 8) (k : Fin k0_t1_loop.trips) (j : Fin 8) :
    k0_off2 i v5 k (BitVec.ofNat 32 j.val) 0 = (v5.toNat * 40 + k.val) * 64 + (i 0).val * 8 + j.val := by
  have hk : k.val < 40 := Nat.lt_of_lt_of_le k.isLt k0_t1_abs.2.1
  have hi : (i 0).val < 8 := (i 0).isLt
  have hj := j.isLt
  simp only [k0_off2, Matrix.cons_val_zero, Scf.iv, Scalar.indexCast, Scalar.addi, Scalar.muli, IntOp.addi, IntOp.muli, BitVec.toNat_add, BitVec.toNat_mul,
    BitVec.toNat_ofNat]
  omega

/-- A block's payload is the dequantised weights at the block. -/
theorem pay_dq (arg9 : Memref sig .tc .vmem S1x5120x1024 .fp8e4m3) (X9 : BufTy.Contents (Elt F) arg9.view.ty)
    (S : S20480.Idx → Elt F .f32) (n e k j : Nat) (hk : k < 40) (hj : j < 8)
    {o3 : Fin 3 → Nat} (inb3 : ∀ a, o3 a + S1x128x128.size a ≤ S1x5120x1024.size a) (h3 : o3 = ![0, 128 * k, 128 * j])
    {o4 : Fin 2 → Nat} (inb4 : ∀ a, o4 a + S128x128.size a ≤ S5120x1024.size a) (h4 : o4 = ![128 * k, 128 * j])
    (s : Elt F .f32) (hs : s = S (sAt n e (128 * k) (128 * j))) (x : S128x128.Idx) :
    k0_pay3 s (View.readAt (Elt F) arg9.view (Rect.unit (s := S1x5120x1024) o3 S1x128x128.size inb3).toLoadRect X9) x
      = dq n e S (arg9.view.read (Elt F) X9) ((Rect.unit (s := S5120x1024) o4 S128x128.size inb4).emb x) := by
  subst h3 h4 hs
  unfold k0_pay3 dq
  rw [shapeCast_id]
  simp only [mulf_apply, extf_apply, truncf_apply]
  obtain ⟨a, b, rfl⟩ : ∃ a b, x = ValueIdx.ix2 a b := ⟨x 0, x 1, ValueIdx.eq_ix2 x⟩
  have e0 : ((Rect.unit (s := S5120x1024) ![128 * k, 128 * j] S128x128.size inb4).emb (ValueIdx.ix2 a b) 0).val = 128 * k + a.val := by
    rw [Rect.emb_apply]; show 128 * _ + 1 * _ = _; rw [Nat.one_mul]
  have e1 : ((Rect.unit (s := S5120x1024) ![128 * k, 128 * j] S128x128.size inb4).emb (ValueIdx.ix2 a b) 1).val = 128 * j + b.val := by
    rw [Rect.emb_apply]; show 128 * _ + 1 * _ = _; rw [Nat.one_mul]
  have ha := a.isLt
  have hb := b.isLt
  refine congrArg₂ FloatOps.mulf (congrArg _ ?_) (congrArg _ ?_)
  · rw [ValueIdx.shapeCast_1ab_ab_apply]
    show arg9.view.read (Elt F) X9 _ = arg9.view.read (Elt F) X9 _
    congr 1
    funext d
    apply Fin.ext
    match d with
    | ⟨0, _⟩ => rfl
    | ⟨1, _⟩ => show 128 * k + 1 * a.val = _; rw [Nat.one_mul]; exact e0.symm
    | ⟨2, _⟩ => show 128 * j + 1 * b.val = _; rw [Nat.one_mul]; exact e1.symm
  · show S (sAt n e (128 * k) (128 * j)) = S (sAt n e _ _)
    rw [e0, e1]
    unfold sAt
    congr 2
    apply Fin.ext
    have h1 : (128 * k + a.val) / 128 = 128 * k / 128 := by omega
    have h2 : (128 * j + b.val) / 128 = 128 * j / 128 := by omega
    show _ % 20480 = _ % 20480
    rw [h1, h2]

/-- One trip's pieces are the dequantised weights at their places, and cover the trip's rows. -/
theorem tripD_spec (𝒱 : Variants) (c : Dev nD) (bd : Option 𝒱.V) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole) (arg0 : BitVec 32) (v1 : Elt F .i32) (v3 : Elt F .i32) (v5 : Elt F .i32) (v8 : Elt F .i32) (k0_hw1 : k0_chk1 i v1 v3 v5 v8) (k0_h1 : k0_cond1 v1 v3 v8 = 1#1) (he : v5.toNat < 8)
    (X_arg7 : BufTy.Contents (Elt F) arg7.view.ty) (X_arg9 : BufTy.Contents (Elt F) arg9.view.ty) (k : Fin k0_t1_loop.trips) :
    (∀ p ∈ (tripD (F := F) 𝒱 c bd i arg2 harg2 arg3 harg3 arg4 harg4 arg5 harg5 arg6 harg6 arg7 harg7 arg8 harg8 arg9 harg9 arg10 harg10 arg11 harg11 arg0 v1 v3 v5 v8 k0_hw1 k0_h1 X_arg7 X_arg9 k).1, ∀ x : p.1.shape.Idx, p.2 x = dq (i 0).val v5.toNat (arg7.view.read (Elt F) X_arg7) (arg9.view.read (Elt F) X_arg9) (p.1.emb x))
    ∧ (∀ y : S5120x1024.Idx, 128 * k.val ≤ (y 0).val → (y 0).val < 128 * k.val + 128 →
        ∃ p ∈ (tripD (F := F) 𝒱 c bd i arg2 harg2 arg3 harg3 arg4 harg4 arg5 harg5 arg6 harg6 arg7 harg7 arg8 harg8 arg9 harg9 arg10 harg10 arg11 harg11 arg0 v1 v3 v5 v8 k0_hw1 k0_h1 X_arg7 X_arg9 k).1, y ∈ p.1.set)
    ∧ (∀ y : S5120x1024.Idx, (y 0).val < 128 * k.val →
        ∀ p ∈ (tripD (F := F) 𝒱 c bd i arg2 harg2 arg3 harg3 arg4 harg4 arg5 harg5 arg6 harg6 arg7 harg7 arg8 harg8 arg9 harg9 arg10 harg10 arg11 harg11 arg0 v1 v3 v5 v8 k0_hw1 k0_h1 X_arg7 X_arg9 k).1, y ∉ p.1.set) := by
  have hk : k.val < 40 := Nat.lt_of_lt_of_le k.isLt k0_t1_abs.2.1
  have hw : ∀ (j : Fin 8) (q : BitVec 32) (hq : q = BitVec.ofNat 32 j.val) (inb), View.readAt (Elt F) arg7.view (Rect.unit (s := S20480) (k0_off2 i v5 k q) S1.size inb).toLoadRect X_arg7 (Shape.Idx.first (Nat.lt_of_lt_of_eq Nat.zero_lt_one numel1_S1.symm))
      = arg7.view.read (Elt F) X_arg7 (sAt (i 0).val v5.toNat (128 * k.val) (128 * j.val)) := by
    intro j q hq inb
    subst hq
    rw [View.readAt_apply]
    congr 1
    funext d
    apply Fin.ext
    match d with
    | ⟨0, _⟩ =>
      show k0_off2 i v5 k (BitVec.ofNat 32 j.val) 0 + 1 * _ = _ % 20480
      have h0 := off2_val i v5 he k j
      have hi : (i 0).val < 8 := (i 0).isLt
      have hj := j.isLt
      have hz : (Shape.Idx.first (Nat.lt_of_lt_of_eq Nat.zero_lt_one numel1_S1.symm) : S1.Idx) (⟨0, by decide⟩ : Fin S1.rank) < (1 : Nat) := Fin.isLt _
      rw [h0]
      omega
  unfold tripD
  refine ⟨?_, ?_, ?_⟩
  · intro p hp x
    simp only [List.mem_cons, List.not_mem_nil, _root_.or_false] at hp
    rcases hp with rfl | rfl | rfl | rfl | rfl | rfl | rfl | rfl
    · exact pay_dq arg9 X_arg9 _ _ _ k.val 7 hk (by decide) (k0_off17_inb k) (k0_off17_eq k) (k0_off18_inb k) (k0_off18_eq k) _ (hw 7 _ rfl _) x
    · exact pay_dq arg9 X_arg9 _ _ _ k.val 6 hk (by decide) (k0_off15_inb k) (k0_off15_eq k) (k0_off16_inb k) (k0_off16_eq k) _ (hw 6 _ rfl _) x
    · exact pay_dq arg9 X_arg9 _ _ _ k.val 5 hk (by decide) (k0_off13_inb k) (k0_off13_eq k) (k0_off14_inb k) (k0_off14_eq k) _ (hw 5 _ rfl _) x
    · exact pay_dq arg9 X_arg9 _ _ _ k.val 4 hk (by decide) (k0_off11_inb k) (k0_off11_eq k) (k0_off12_inb k) (k0_off12_eq k) _ (hw 4 _ rfl _) x
    · exact pay_dq arg9 X_arg9 _ _ _ k.val 3 hk (by decide) (k0_off9_inb k) (k0_off9_eq k) (k0_off10_inb k) (k0_off10_eq k) _ (hw 3 _ rfl _) x
    · exact pay_dq arg9 X_arg9 _ _ _ k.val 2 hk (by decide) (k0_off7_inb k) (k0_off7_eq k) (k0_off8_inb k) (k0_off8_eq k) _ (hw 2 _ rfl _) x
    · exact pay_dq arg9 X_arg9 _ _ _ k.val 1 hk (by decide) (k0_off5_inb k) (k0_off5_eq k) (k0_off6_inb k) (k0_off6_eq k) _ (hw 1 _ rfl _) x
    · exact pay_dq arg9 X_arg9 _ _ _ k.val 0 hk (by decide) (k0_off3_inb k) (k0_off3_eq k) (k0_off4_inb k) (k0_off4_eq k) _ (hw 0 _ rfl _) x
  · intro y h0 h1
    have hy : (y 1).val < 1024 := (y 1).isLt
    simp only [List.mem_cons, List.not_mem_nil, _root_.or_false, exists_eq_or_imp, exists_eq_left, Rect.mem_set_unit]
    have hm : ∀ (o : Fin 2 → Nat) (j : Nat), o = ![128 * k.val, 128 * j] → 128 * j ≤ (y 1).val → (y 1).val < 128 * j + 128 →
        ∀ a : Fin 2, o a ≤ (y a).val ∧ (y a).val < o a + (![128, 128] : Fin 2 → Nat) a := by
      rintro o j rfl h2 h3 a
      match a with
      | ⟨0, _⟩ => exact ⟨h0, h1⟩
      | ⟨1, _⟩ => exact ⟨h2, h3⟩
    by_cases c0 : (y 1).val < 128
    · exact Or.inr <| Or.inr <| Or.inr <| Or.inr <| Or.inr <| Or.inr <| Or.inr <| hm _ 0 (k0_off4_eq k) (by omega) (by omega)
    by_cases c1 : (y 1).val < 256
    · exact Or.inr <| Or.inr <| Or.inr <| Or.inr <| Or.inr <| Or.inr <| Or.inl <| hm _ 1 (k0_off6_eq k) (by omega) (by omega)
    by_cases c2 : (y 1).val < 384
    · exact Or.inr <| Or.inr <| Or.inr <| Or.inr <| Or.inr <| Or.inl <| hm _ 2 (k0_off8_eq k) (by omega) (by omega)
    by_cases c3 : (y 1).val < 512
    · exact Or.inr <| Or.inr <| Or.inr <| Or.inr <| Or.inl <| hm _ 3 (k0_off10_eq k) (by omega) (by omega)
    by_cases c4 : (y 1).val < 640
    · exact Or.inr <| Or.inr <| Or.inr <| Or.inl <| hm _ 4 (k0_off12_eq k) (by omega) (by omega)
    by_cases c5 : (y 1).val < 768
    · exact Or.inr <| Or.inr <| Or.inl <| hm _ 5 (k0_off14_eq k) (by omega) (by omega)
    by_cases c6 : (y 1).val < 896
    · exact Or.inr <| Or.inl <| hm _ 6 (k0_off16_eq k) (by omega) (by omega)
    by_cases c7 : (y 1).val < 1024
    · exact Or.inl <| hm _ 7 (k0_off18_eq k) (by omega) (by omega)
    omega
  · intro y h0 p hp
    have hn : ∀ (o : Fin 2 → Nat) (j : Nat) (inb), o = ![128 * k.val, 128 * j] → y ∉ (Rect.unit (s := S5120x1024) o S128x128.size inb).set := by
      rintro o j inb rfl hmem
      have := (Rect.mem_set_unit.mp hmem 0).1
      exact absurd this (by show ¬ (128 * k.val ≤ _); omega)
    simp only [List.mem_cons, List.not_mem_nil, _root_.or_false] at hp
    rcases hp with rfl | rfl | rfl | rfl | rfl | rfl | rfl | rfl
    · exact hn _ 7 (k0_off18_inb k) (k0_off18_eq k)
    · exact hn _ 6 (k0_off16_inb k) (k0_off16_eq k)
    · exact hn _ 5 (k0_off14_inb k) (k0_off14_eq k)
    · exact hn _ 4 (k0_off12_inb k) (k0_off12_eq k)
    · exact hn _ 3 (k0_off10_inb k) (k0_off10_eq k)
    · exact hn _ 2 (k0_off8_inb k) (k0_off8_eq k)
    · exact hn _ 1 (k0_off6_inb k) (k0_off6_eq k)
    · exact hn _ 0 (k0_off4_inb k) (k0_off4_eq k)

/-- Before trip `k` the scratch reads the dequantised weights on the rows of the trips before. -/
abbrev invD (𝒱 : Variants) (c : Dev nD) (bd : Option 𝒱.V) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole) (arg0 : BitVec 32) (v1 : Elt F .i32) (v3 : Elt F .i32) (v5 : Elt F .i32) (v8 : Elt F .i32) (k0_hw1 : k0_chk1 i v1 v3 v5 v8) (k0_h1 : k0_cond1 v1 v3 v8 = 1#1)
    (X_arg7 : BufTy.Contents (Elt F) arg7.view.ty) (X_arg9 : BufTy.Contents (Elt F) arg9.view.ty) (k : ℕ) (_u : PUnit) : sProp 𝕄G :=
  iprop((arg7.view.loc (c : Thread nD τ) ↦[arg7.view.set]{fullShare} X_arg7) ∗ (arg9.view.loc (c : Thread nD τ) ↦[arg9.view.set]{fullShare} X_arg9)
    ∗ (∃ f, (arg11.view.loc (c : Thread nD τ) ↦[arg11.view.set]{fullShare} f)
        ∗ ⌜v5.toNat < 8 → ∀ y : S5120x1024.Idx, (y 0).val < 128 * k →
            arg11.view.read (Elt F) f y = dq (i 0).val v5.toNat (arg7.view.read (Elt F) X_arg7) (arg9.view.read (Elt F) X_arg9) y⌝))

set_option warn.classDefReducibility false in
/-- The loop by its invariant. -/
@[sl_loop] def loopInvD (𝒱 : Variants) (c : Dev nD) (bd : Option 𝒱.V) (E : Set ℕ) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole) (arg0 : BitVec 32) (v1 : Elt F .i32) (v3 : Elt F .i32) (v5 : Elt F .i32) (v8 : Elt F .i32) (k0_hw1 : k0_chk1 i v1 v3 v5 v8) (k0_h1 : k0_cond1 v1 v3 v8 = 1#1)
    (X_arg7 : BufTy.Contents (Elt F) arg7.view.ty) (X_arg9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg0 v1 v3 v5 v8 k0_hw1 k0_h1 where
  inv := invD (F := F) 𝒱 c bd i arg2 harg2 arg3 harg3 arg4 harg4 arg5 harg5 arg6 harg6 arg7 harg7 arg8 harg8 arg9 harg9 arg10 harg10 arg11 harg11 arg0 v1 v3 v5 v8 k0_hw1 k0_h1 X_arg7 X_arg9
  step k acc := by
    iintro ⟨HR_arg7, HR_arg9, ⟨%f_arg11, HW_arg11, %h_arg11⟩⟩
    iapply (wp_wand_r Idealize.ShloMosaic.frame (wpE (defs₀ (F := F)) 𝒱 (c : Thread nD τ) bd) E)
    isplitl [HR_arg7 HR_arg9 HW_arg11]
    · iapply ((tripD (F := F) 𝒱 c bd i arg2 harg2 arg3 harg3 arg4 harg4 arg5 harg5 arg6 harg6 arg7 harg7 arg8 harg8 arg9 harg9 arg10 harg10 arg11 harg11 arg0 v1 v3 v5 v8 k0_hw1 k0_h1 X_arg7 X_arg9 k).2 E f_arg11)
      isplitl [HR_arg7]; · iexact HR_arg7
      isplitl [HR_arg9]; · iexact HR_arg9
      iexact HW_arg11
    · iintro %_ ⟨HR_arg7, HR_arg9, HW_arg11⟩
      isplitl [HR_arg7]; · iexact HR_arg7
      isplitl [HR_arg9]; · iexact HR_arg9
      iexists _; isplitl [HW_arg11]; · iexact HW_arg11
      ipureintro
      intro he y hy
      obtain ⟨hp, hc, hcn⟩ := tripD_spec (F := F) 𝒱 c bd i arg2 harg2 arg3 harg3 arg4 harg4 arg5 harg5 arg6 harg6 arg7 harg7 arg8 harg8 arg9 harg9 arg10 harg10 arg11 harg11 arg0 v1 v3 v5 v8 k0_hw1 k0_h1 he X_arg7 X_arg9 k
      by_cases hlt : 128 * k.val ≤ (y 0).val
      · exact View.read_writes_apply_of_pieces _ _ _ _ hp y (hc y hlt (by omega))
      · rw [View.read_writes_apply_of_forall_not_mem _ _ _ _ (hcn y (by omega))]
        exact h_arg11 he y (by omega)

/-- The word of a table at the point's work item. -/
abbrev wd (a : Memref sig .tc .smem S31 .i32) (i : grid0.Coords) (T : BufTy.Contents (Elt F) a.view.ty) : Elt F .i32 :=
  a.view.readAt (Elt F) (Rect.unit (s := S31) (k0_off1 i) S1.size (k0_off1_inb i)).toLoadRect T
    (Shape.Idx.first (Nat.lt_of_lt_of_eq Nat.zero_lt_one numel1_S1.symm))
/-- The same, at the offsets of the body's second read of the tile table. -/
abbrev wd2 (a : Memref sig .tc .smem S31 .i32) (i : grid0.Coords) (T : BufTy.Contents (Elt F) a.view.ty) : Elt F .i32 :=
  a.view.readAt (Elt F) (Rect.unit (s := S31) (k0_off19 i) S1.size (k0_off19_inb i)).toLoadRect T
    (Shape.Idx.first (Nat.lt_of_lt_of_eq Nat.zero_lt_one numel1_S1.symm))

/-- The second store's condition is the negation of the first's. -/
theorem cond4_iff (v1 v3 v21 : BitVec 32) : k0_cond4 v1 v3 v21 = 1#1 ↔ ¬ k0_cond3 v1 v3 v21 = 1#1 := by
  unfold k0_cond4 k0_cond3
  have h : ∀ b : BitVec 1, Scalar.cmpi .ne (Scalar.extui (Scalar.xori b 1#1) : BitVec 32) 0#32 = 1#1
      ↔ ¬ Scalar.cmpi .ne (Scalar.extui b : BitVec 32) 0#32 = 1#1 := by decide
  exact h _

section Body
variable (𝒱 : Variants) (c : Dev nD) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole)

/-- What the body leaves: the scratch dequantised when the item starts a new expert, the output block written when the
item has rows. -/
def BodyPost (w1 w3 w5 w8 w21 : BitVec 32) (x7 : S20480.Idx → Elt F .f32) (x8 : S512x5120.Idx → Elt F .bf16) (x9 : S1x5120x1024.Idx → Elt F .fp8e4m3)
    (o o' : S512x1024.Idx → Elt F .bf16) (s s' : S5120x1024.Idx → Elt F .bf16) (n : Nat) : Prop :=
  (k0_cond1 w1 w3 w8 = 1#1 → w5.toNat < 8 → s' = dq n w5.toNat x7 x9)
  ∧ (¬ k0_cond1 w1 w3 w8 = 1#1 → s' = s)
  ∧ (k0_cond2 w1 w3 = 1#1 → k0_cond3 w1 w3 w21 = 1#1 → o' = k0_pay1 x8 s')
  ∧ (k0_cond2 w1 w3 = 1#1 → ¬ k0_cond3 w1 w3 w21 = 1#1 → o' = k0_pay2 w1 w3 x8 s' w21 o)
  ∧ (¬ k0_cond2 w1 w3 = 1#1 → o' = o)

abbrev pt {sp : Space} {s : Shape} {e : EltTy} (c : Dev nD) (a : Memref sig .tc sp s e) (q : PosShare TreeShare) (f : BufTy.Contents (Elt F) a.view.ty) : sProp 𝕄G :=
  iprop(a.view.loc (c : Thread nD τ) ↦[a.view.set]{q} f)

theorem body_run (q : PosShare TreeShare)
    (T2 : BufTy.Contents (Elt F) arg2.view.ty) (T3 : BufTy.Contents (Elt F) arg3.view.ty) (T4 : BufTy.Contents (Elt F) arg4.view.ty)
    (T5 : BufTy.Contents (Elt F) arg5.view.ty) (T6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty)
    (hchk : k0_chk1 i (wd (F := F) arg4 i T4) (wd (F := F) arg5 i T5) (wd (F := F) arg3 i T3) (wd (F := F) arg6 i T6)) :
    iprop(pt c arg2 q T2 ∗ pt c arg3 q T3 ∗ pt c arg4 q T4 ∗ pt c arg5 q T5 ∗ pt c arg6 q T6
      ∗ pt c arg7 fullShare X7 ∗ pt c arg8 fullShare X8 ∗ pt c arg9 fullShare X9 ∗ pt c arg10 fullShare X10 ∗ pt c arg11 fullShare X11)
    ⊢ wp frame (wpE (defs₀ (F := F)) 𝒱 (c : Thread nD τ) none) Set.univ (cc0_gmm i arg2 harg2 arg3 harg3 arg4 harg4 arg5 harg5 arg6 harg6 arg7 harg7 arg8 harg8 arg9 harg9 arg10 harg10 arg11 harg11)
      (fun _ => iprop(pt c arg2 q T2 ∗ pt c arg3 q T3 ∗ pt c arg4 q T4 ∗ pt c arg5 q T5 ∗ pt c arg6 q T6
        ∗ pt c arg7 fullShare X7 ∗ pt c arg8 fullShare X8 ∗ pt c arg9 fullShare X9
        ∗ ∃ f10 f11, pt c arg10 fullShare f10 ∗ pt c arg11 fullShare f11
          ∗ ⌜BodyPost (F := F) (wd (F := F) arg4 i T4) (wd (F := F) arg5 i T5) (wd (F := F) arg3 i T3) (wd (F := F) arg6 i T6) (wd2 (F := F) arg2 i T2)
              (arg7.view.read (Elt F) X7) (arg8.view.read (Elt F) X8) (arg9.view.read (Elt F) X9)
              (arg10.view.read (Elt F) X10) (arg10.view.read (Elt F) f10) (arg11.view.read (Elt F) X11) (arg11.view.read (Elt F) f11) (i 0).val⌝)) := by
  rw [cc0_gmm_eq_skeleton]
  unfold cc0_gmm_skel
  iintro ⟨H2, H3, H4, H5, H6, H7, H8, H9, H10, H11⟩
  by_cases h1 : k0_cond1 (wd (F := F) arg4 i T4) (wd (F := F) arg5 i T5) (wd (F := F) arg6 i T6) = 1#1
  · sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexists _
    isplitl [H10]; · iexact H10
    isplitl [H11]; · iexact H11
    ipureintro
    refine ⟨fun _ he => funext fun y => hL3 he y (lt_of_lt_of_le (y 0).isLt (by decide)), fun h => absurd h1 h, fun h2 h3 => ?_, fun h2 h3 => ?_, fun h2 => ?_⟩
    · have h4 := mt (cond4_iff _ _ _).1 (not_not.2 h3)
      refine (congrArg (arg10.view.read (Elt F)) ((dif_pos h2).trans ((dif_neg h4).trans (dif_pos h3)))).trans ?_
      rw [View.read_writes_full, View.readAt_full, View.readAt_full]
    · have h4 := (cond4_iff _ _ _).2 h3
      refine (congrArg (arg10.view.read (Elt F)) ((dif_pos h2).trans (dif_pos h4))).trans ?_
      rw [View.read_writes_full, View.readAt_full, View.readAt_full]
      exact congrArg (k0_pay2 _ _ _ _ _) ((congrArg (View.readAt (Elt F) arg10.view (Rect.unit (s := S512x1024) ![0, 0] S512x1024.size inb_S512x1024_S512x1024_0_0).toLoadRect) (dif_neg h3)).trans (View.readAt_full _ _ _))
    · exact congrArg (arg10.view.read (Elt F)) (dif_neg h2)
  · sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexists _
    isplitl [H10]; · iexact H10
    isplitl [H11]; · iexact H11
    ipureintro
    refine ⟨fun h => absurd h h1, fun _ => rfl, fun h2 h3 => ?_, fun h2 h3 => ?_, fun h2 => ?_⟩
    · have h4 := mt (cond4_iff _ _ _).1 (not_not.2 h3)
      refine (congrArg (arg10.view.read (Elt F)) ((dif_pos h2).trans ((dif_neg h4).trans (dif_pos h3)))).trans ?_
      rw [View.read_writes_full, View.readAt_full, View.readAt_full]
    · have h4 := (cond4_iff _ _ _).2 h3
      refine (congrArg (arg10.view.read (Elt F)) ((dif_pos h2).trans (dif_pos h4))).trans ?_
      rw [View.read_writes_full, View.readAt_full, View.readAt_full]
      exact congrArg (k0_pay2 _ _ _ _ _) ((congrArg (View.readAt (Elt F) arg10.view (Rect.unit (s := S512x1024) ![0, 0] S512x1024.size inb_S512x1024_S512x1024_0_0).toLoadRect) (dif_neg h3)).trans (View.readAt_full _ _ _))
    · exact congrArg (arg10.view.read (Elt F)) (dif_neg h2)

end Body

end Cert.Kernel.Hand

end
-- ==== Proof.KRun.lean ====
/-
  The launch: the proof data of the one pipelined call (each input window at its block, the output window held to a
  relation, the scratch held to an invariant), its body obligation from the body's triple, and the run of the whole
  program after the host operations that compute the tables.
-/
module

public import proofs.«01_k».proof.Proof.KBody
public import proofs.«01_k».proof.Proof.Gen.Kernel.Launch
public import Idealize.ShloMosaic.Lib.Pipeline.Frame
public import Idealize.ShloMosaic.Lib.Pipeline.DatRel
public import Idealize.ShloMosaic.Lib.Pipeline.FrameSuffix

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄G" => MT nD τ sig Unit (Elt F) ℕ (UR sig nD τ) ℕ

/-- The word of table `k` at work item `j`. -/
abbrev tw (T : pre0.Contents (Elt F)) (k : Fin 5) (i : grid0.Coords) : BitVec 32 :=
  match k with
  | 0 => T 0 (ValueIdx.ix1 (i 1))
  | 1 => T 1 (ValueIdx.ix1 (i 1))
  | 2 => T 2 (ValueIdx.ix1 (i 1))
  | 3 => T 3 (ValueIdx.ix1 (i 1))
  | 4 => T 4 (ValueIdx.ix1 (i 1))

section Data

variable (V : (c : Dev nD) → (b : Ref sig .tc) → Buf (Elt F) ((c : Thread nD τ).loc b))
variable (T : pre0.Contents (Elt F)) (hok : ok0 T)

/-- The call at the tables' contents. -/
abbrev cfgT : Cfg sig Λ₀ := cfg0 (F := F) ⟨T, hok⟩

/-- Window `w`'s block at a point, cut from the array as the call finds it. -/
def iblk (c : Dev nD) (w : Fin (cfgT T hok).W) (t : Fin (cfgT T hok).N) : (((cfgT T hok).win w).xblock ((cfgT T hok).grid.coords t)).Idx → Elt F ((cfgT T hok).win w).elt :=
  (((cfgT T hok).win w).blk t).view.read (Elt F) (V c (Pipeline.arrRef spec0 w))

variable (Inv : Nat → (S5120x1024.Idx → Elt F .bf16) → Prop)
variable (Rl3 : Fin (cfgT T hok).N → (S512x1024.Idx → Elt F .bf16) → Prop)

/-- The scratch at contents that meet the invariant. -/
def scr (c : Dev nD) (P : (S5120x1024.Idx → Elt F .bf16) → Prop) : sProp 𝕄G :=
  iprop(∃ f, pt (F := F) c (Memref.whole cc0_scratch0) fullShare f ∗ ⌜P ((Memref.whole cc0_scratch0).view.read (Elt F) f)⌝)

/-- The exact part of the data. -/
def datX (c : Dev nD) : Dat τ (Elt F) Unit ℕ (UR sig nD τ) ℕ (cfgT T hok) c where
  A w := V c (Pipeline.arrRef spec0 w)
  after w t := match w with
    | ⟨0, _⟩ => iblk V T hok c 0 t
    | ⟨1, _⟩ => iblk V T hok c 1 t
    | ⟨2, _⟩ => iblk V T hok c 2 t
    | ⟨3, _⟩ => iblk V T hok c 3 t
  Φ t := iprop(scr c (Inv t.val) ∗ (∃ r, prngReg c r) ∗ Pipeline.ΦT pre0 T c)
  q _ := fullShare
  owed _ := 0

/-- The output window is the one held to a relation. -/
abbrev fgt : Fin (cfgT T hok).W → Bool := fun | ⟨3, _⟩ => true | ⟨_, _⟩ => false

/-- The relation, by window. -/
abbrev RlW : (w : Fin (cfgT T hok).W) → Fin (cfgT T hok).N → (((cfgT T hok).win w).block.Idx → Elt F ((cfgT T hok).win w).elt) → Prop :=
  fun | ⟨3, _⟩ => Rl3 | ⟨_, _⟩ => fun _ _ => True

/-- The data. -/
abbrev rdatX (c : Dev nD) : RDat τ (Elt F) Unit ℕ (UR sig nD τ) ℕ (cfgT T hok) c :=
  (datX V T hok Inv c).toRRel (fgt T hok) (RlW T hok Rl3)

theorem before0 (c : Dev nD) (t) (d) : (datX V T hok Inv c).before 0 t d = iblk V T hok c 0 t :=
  ((datX V T hok Inv c).before_in_eq_fetched 0 rfl (fun _ => rfl) (fun _ _ _ => rfl) (fun t => rfl) t d).trans rfl
theorem before1 (c : Dev nD) (t) (d) : (datX V T hok Inv c).before 1 t d = iblk V T hok c 1 t :=
  ((datX V T hok Inv c).before_in_eq_fetched 1 rfl (fun _ => rfl) (fun _ _ _ => rfl) (fun t => rfl) t d).trans rfl
theorem before2 (c : Dev nD) (t) (d) : (datX V T hok Inv c).before 2 t d = iblk V T hok c 2 t :=
  ((datX V T hok Inv c).before_in_eq_fetched 2 rfl (fun _ => rfl) (fun _ _ _ => rfl) (fun t => rfl) t d).trans rfl

/-- The step the body takes at a point: from the scratch's invariant and what the output block may hold, what the body
leaves (`BodyPost`) meets the next invariant and the relation. -/
def Step (c : Dev nD) : Prop :=
  ∀ (t : Fin (cfgT T hok).N) (B B' : S5120x1024.Idx → Elt F .bf16) (O O' : S512x1024.Idx → Elt F .bf16),
    Inv t.val B → (rdatX V T hok Inv Rl3 c).Finds 3 t O →
    BodyPost (F := F) (tw T 2 (grid0.coords t)) (tw T 3 (grid0.coords t)) (tw T 1 (grid0.coords t)) (tw T 4 (grid0.coords t)) (tw T 0 (grid0.coords t))
      (iblk V T hok c 0 t) (iblk V T hok c 1 t) (iblk V T hok c 2 t) O O' B B' (grid0.coords t 0).val →
    Inv (t.val + 1) B' ∧ Rl3 t O'

/-- The side condition the body checks of the words it reads. -/
def Chk : Prop := ∀ i : grid0.Coords, k0_chk1 i (tw T 2 i) (tw T 3 i) (tw T 1 i) (tw T 4 i)

theorem off1_idx (i : grid0.Coords) :
    (Rect.unit (s := S31) (k0_off1 i) S1.size (k0_off1_inb i)).emb (Shape.Idx.first (Nat.lt_of_lt_of_eq Nat.zero_lt_one numel1_S1.symm)) = ValueIdx.ix1 (i 1) := by
  funext a
  apply Fin.ext
  match a with
  | ⟨0, _⟩ =>
    have hz : (Shape.Idx.first (Nat.lt_of_lt_of_eq Nat.zero_lt_one numel1_S1.symm) : S1.Idx) (⟨0, by decide⟩ : Fin S1.rank) < (1 : Nat) := Fin.isLt _
    have h0 : k0_off1 i 0 = (i 1).val := congrFun (k0_off1_eq i) 0
    exact (show k0_off1 i 0 + 1 * (Shape.Idx.first (Nat.lt_of_lt_of_eq Nat.zero_lt_one numel1_S1.symm) : S1.Idx) (⟨0, by decide⟩ : Fin S1.rank) = (i 1).val by omega)

theorem off19_idx (i : grid0.Coords) :
    (Rect.unit (s := S31) (k0_off19 i) S1.size (k0_off19_inb i)).emb (Shape.Idx.first (Nat.lt_of_lt_of_eq Nat.zero_lt_one numel1_S1.symm)) = ValueIdx.ix1 (i 1) := by
  funext a
  apply Fin.ext
  match a with
  | ⟨0, _⟩ =>
    have hz : (Shape.Idx.first (Nat.lt_of_lt_of_eq Nat.zero_lt_one numel1_S1.symm) : S1.Idx) (⟨0, by decide⟩ : Fin S1.rank) < (1 : Nat) := Fin.isLt _
    have h0 : k0_off19 i 0 = (i 1).val := congrFun (k0_off19_eq i) 0
    exact (show k0_off19 i 0 + 1 * (Shape.Idx.first (Nat.lt_of_lt_of_eq Nat.zero_lt_one numel1_S1.symm) : S1.Idx) (⟨0, by decide⟩ : Fin S1.rank) = (i 1).val by omega)

theorem wd0 (i : grid0.Coords) : wd2 (F := F) (Memref.whole main_v53) i (T 0) = tw T 0 i := congrArg (T 0) (off19_idx i)
theorem wd1 (i : grid0.Coords) : wd (F := F) (Memref.whole main_v28) i (T 1) = tw T 1 i := congrArg (T 1) (off1_idx i)
theorem wd_2 (i : grid0.Coords) : wd (F := F) (Memref.whole main_v61) i (T 2) = tw T 2 i := congrArg (T 2) (off1_idx i)
theorem wd3 (i : grid0.Coords) : wd (F := F) (Memref.whole main_v69) i (T 3) = tw T 3 i := congrArg (T 3) (off1_idx i)
theorem wd4 (i : grid0.Coords) : wd (F := F) (Memref.whole main_v75) i (T 4) = tw T 4 i := congrArg (T 4) (off1_idx i)

/-- The tables one by one. -/
theorem tabs_eq (c : Dev nD) : (Pipeline.ΦT pre0 T c : sProp 𝕄G)
    = iprop(pt c (Memref.whole main_v53) fullShare.right (T 0) ∗ pt c (Memref.whole main_v28) fullShare.right (T 1)
      ∗ pt c (Memref.whole main_v61) fullShare.right (T 2) ∗ pt c (Memref.whole main_v69) fullShare.right (T 3)
      ∗ pt c (Memref.whole main_v75) fullShare.right (T 4)) := by
  unfold Pipeline.ΦT Pipeline.prefHeld pt
  rw [bigSep_univ_eq_bigSepL [(0 : Fin 5), 1, 2, 3, 4] (by decide) (by decide)]
  simp only [View.set_whole]
  rfl

/-- The body at a point, on the staging buffers the call hands it. -/
abbrev bodyT (t : Fin (cfgT T hok).N) := cc0_gmm (F := F) (grid0.coords t) (Memref.whole main_v53) (Memref.isWhole_whole _) (Memref.whole main_v28) (Memref.isWhole_whole _) (Memref.whole main_v61) (Memref.isWhole_whole _) (Memref.whole main_v69) (Memref.isWhole_whole _) (Memref.whole main_v75) (Memref.isWhole_whole _)
  (spec0_0.stage ((cfgT T hok).slots t 0)) (hstage0_0 (((cfgT T hok).slots t 0).cast nbuf0_0)) (spec0_1.stage ((cfgT T hok).slots t 1)) (hstage0_1 (((cfgT T hok).slots t 1).cast nbuf0_1))
  (spec0_2.stage ((cfgT T hok).slots t 2)) (hstage0_2 (((cfgT T hok).slots t 2).cast nbuf0_2)) (spec0_3.stage ((cfgT T hok).slots t 3)) (hstage0_3 (((cfgT T hok).slots t 3).cast nbuf0_3))
  (Memref.whole cc0_scratch0) (Memref.isWhole_whole _)

theorem row (t : Fin (cfgT T hok).N) : defs₀ (F := F) .tc (cfgT T hok).body ((cfgT T hok).bodyArgs t ((cfgT T hok).slots t)) = bodyT T hok t := by
  unfold defs₀; rw [Defs.onTc_tc]

theorem Phi_at (c : Dev nD) (t : Fin ((cfgT T hok).N + 1)) :
    (datX V T hok Inv c).Φ t = iprop(scr c (Inv t.val) ∗ (∃ r, prngReg c r) ∗ Pipeline.ΦT pre0 T c) := by dsimp only [datX]
theorem after_0 (c : Dev nD) (t) : (datX V T hok Inv c).after 0 t = iblk V T hok c 0 t := by dsimp only [datX]; rfl
theorem after_1 (c : Dev nD) (t) : (datX V T hok Inv c).after 1 t = iblk V T hok c 1 t := by dsimp only [datX]; rfl
theorem after_2 (c : Dev nD) (t) : (datX V T hok Inv c).after 2 t = iblk V T hok c 2 t := by dsimp only [datX]; rfl
theorem owesAt_succ (c : Dev nD) (t : Fin (cfgT T hok).N) :
    (datX V T hok Inv c).owesAt () t.succ = (datX V T hok Inv c).owesAt () t.castSucc := rfl

set_option maxHeartbeats 4000000 in
theorem sound (hchk : Chk T) (c : Dev nD) (hstep : Step V T hok Inv Rl3 c) (t : Fin (cfgT T hok).N) :
    iprop((datX V T hok Inv c).Φ t.castSucc ∗ (datX V T hok Inv c).owesAt () t.castSucc
      ∗ (∃ d, owns (c : Thread nD τ) (spec0_0.stage ((cfgT T hok).slots t 0)) fullShare ((datX V T hok Inv c).before 0 t d))
      ∗ (∃ d, owns (c : Thread nD τ) (spec0_1.stage ((cfgT T hok).slots t 1)) fullShare ((datX V T hok Inv c).before 1 t d))
      ∗ (∃ d, owns (c : Thread nD τ) (spec0_2.stage ((cfgT T hok).slots t 2)) fullShare ((datX V T hok Inv c).before 2 t d))
      ∗ (∃ Y, ⌜(rdatX V T hok Inv Rl3 c).Finds 3 t Y⌝ ∗ owns (c : Thread nD τ) (spec0_3.stage ((cfgT T hok).slots t 3)) fullShare Y))
    ⊢ wp frame (wpE (defs₀ (F := F)) Variants.none (c : Thread nD τ) none) Set.univ (bodyT T hok t) (fun _ =>
      iprop((datX V T hok Inv c).Φ t.succ ∗ (datX V T hok Inv c).owesAt () t.succ
        ∗ owns (c : Thread nD τ) (spec0_0.stage ((cfgT T hok).slots t 0)) fullShare ((datX V T hok Inv c).after 0 t)
        ∗ owns (c : Thread nD τ) (spec0_1.stage ((cfgT T hok).slots t 1)) fullShare ((datX V T hok Inv c).after 1 t)
        ∗ owns (c : Thread nD τ) (spec0_2.stage ((cfgT T hok).slots t 2)) fullShare ((datX V T hok Inv c).after 2 t)
        ∗ (∃ X, ⌜Rl3 t X⌝ ∗ owns (c : Thread nD τ) (spec0_3.stage ((cfgT T hok).slots t 3)) fullShare X))) := by
  simp only [before0, before1, before2]
  rw [owesAt_succ, Phi_at V T hok Inv c t.succ, Phi_at V T hok Inv c t.castSucc, after_0, after_1, after_2, Fin.val_succ, Fin.val_castSucc, tabs_eq]
  unfold owns scr
  iintro ⟨⟨⟨%f11, H11, %hInv⟩, Hr, H2, H3, H4, H5, H6⟩, Ho, ⟨%d0, %f0, %e0, H7⟩, ⟨%d1, %f1, %e1, H8⟩, ⟨%d2, %f2, %e2, H9⟩, ⟨%Y, %hY, %f3, %e3, H10⟩⟩
  iapply (wp_wand_r Idealize.ShloMosaic.frame (wpE (defs₀ (F := F)) Variants.none (c : Thread nD τ) none) Set.univ)
  isplitl [H2 H3 H4 H5 H6 H7 H8 H9 H10 H11]
  · iapply (body_run (F := F) Variants.none c _ _ _ _ _ _ _ _ _ _ _ _ _ _ _ _ _ _ _ _ _ fullShare.right (T 0) (T 1) (T 2) (T 3) (T 4) f0 f1 f2 f3 f11
      (by rw [wd_2, wd3, wd1, wd4]; exact hchk _))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H2, H3, H4, H5, H6, H7, H8, H9, ⟨%g10, %g11, H10, H11, %hpost⟩⟩
    rw [wd_2, wd3, wd1, wd4, wd0, e0, e1, e2, e3] at hpost
    obtain ⟨hI, hR⟩ := hstep t _ _ _ _ hInv hY hpost
    isplitl [H11 Hr H2 H3 H4 H5 H6]
    · isplitl [H11]
      · iexists g11; isplitl [H11]; · iexact H11
        ipureintro; exact hI
      isplitl [Hr]; · iexact Hr
      isplitl [H2]; · iexact H2
      isplitl [H3]; · iexact H3
      isplitl [H4]; · iexact H4
      isplitl [H5]; · iexact H5
      iexact H6
    isplitl [Ho]; · iexact Ho
    isplitl [H7]
    · iexists f0; isplitr; · ipureintro; exact e0
      iexact H7
    isplitl [H8]
    · iexists f1; isplitr; · ipureintro; exact e1
      iexact H8
    isplitl [H9]
    · iexists f2; isplitr; · ipureintro; exact e2
      iexact H9
    iexists _; isplitr
    · ipureintro; exact hR
    iexists g10; isplitr; · ipureintro; rfl
    iexact H10

theorem body_obl (hchk : Chk T) (c : Dev nD) (hstep : Step V T hok Inv Rl3 c) :
    BodyObligationRel (datX V T hok Inv c) (defs₀ (F := F)) Variants.none () Set.univ (fgt T hok) (RlW T hok Rl3) := fun t => by
  rw [bigSep_W0, bigSep_W0, row]
  exact triple_restated (sound V T hok Inv Rl3 hchk c hstep t) rfl .rfl fun _ => .rfl

end Data

end Cert.Kernel.Hand

end
-- ==== Proof.KLaunch.lean ====
/-
  The run of the whole program: the host operations that compute the tables, then the pipelined call at their
  contents, over the data of `KRun`.
-/
module

public import proofs.«01_k».proof.Proof.KRun

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄G" => MT nD τ sig Unit (Elt F) ℕ (UR sig nD τ) ℕ

variable (m : (ℓ : Loc nD τ sig) → Buf (Elt F) ℓ)

/-- The host operations before the call, list by list. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

theorem hostOps0_fr : (hostOps0 : List (HloOp τ sig (Elt F))).Forall fun op => op.fresh = ∅ := by
  simp only [List.Forall]; repeat' constructor
theorem hostOps0_1_fr : (hostOps0_1 : List (HloOp τ sig (Elt F))).Forall fun op => op.fresh = ∅ := by
  simp only [List.Forall]; repeat' constructor
theorem hostOps0_2_fr : (hostOps0_2 : List (HloOp τ sig (Elt F))).Forall fun op => op.fresh = ∅ := by
  simp only [List.Forall]; repeat' constructor
theorem hostOps0_3_fr : (hostOps0_3 : List (HloOp τ sig (Elt F))).Forall fun op => op.fresh = ∅ := by
  simp only [List.Forall]; repeat' constructor
theorem hostOps0_4_fr : (hostOps0_4 : List (HloOp τ sig (Elt F))).Forall fun op => op.fresh = ∅ := by
  simp only [List.Forall]; repeat' constructor
theorem hostOps0_5_fr : (hostOps0_5 : List (HloOp τ sig (Elt F))).Forall fun op => op.fresh = ∅ := by
  simp only [List.Forall]; repeat' constructor
theorem hostOps0_6_fr : (hostOps0_6 : List (HloOp τ sig (Elt F))).Forall fun op => op.fresh = ∅ := by
  simp only [List.Forall]; repeat' constructor
theorem hostOps0_7_fr : (hostOps0_7 : List (HloOp τ sig (Elt F))).Forall fun op => op.fresh = ∅ := by
  simp only [List.Forall]; repeat' constructor
theorem hostOps0_8_fr : (hostOps0_8 : List (HloOp τ sig (Elt F))).Forall fun op => op.fresh = ∅ := by
  simp only [List.Forall]; repeat' constructor
theorem hostOps0_9_fr : (hostOps0_9 : List (HloOp τ sig (Elt F))).Forall fun op => op.fresh = ∅ := by
  simp only [List.Forall]; repeat' constructor
theorem hostOps0_10_fr : (hostOps0_10 : List (HloOp τ sig (Elt F))).Forall fun op => op.fresh = ∅ := by
  simp only [List.Forall]; repeat' constructor
theorem hostOps0_11_fr : (hostOps0_11 : List (HloOp τ sig (Elt F))).Forall fun op => op.fresh = ∅ := by
  simp only [List.Forall]; repeat' constructor
theorem hostOps0_12_fr : (hostOps0_12 : List (HloOp τ sig (Elt F))).Forall fun op => op.fresh = ∅ := by
  simp only [List.Forall]; repeat' constructor
theorem hostOps0_13_fr : (hostOps0_13 : List (HloOp τ sig (Elt F))).Forall fun op => op.fresh = ∅ := by
  simp only [List.Forall]; repeat' constructor
theorem hostOps0_14_fr : (hostOps0_14 : List (HloOp τ sig (Elt F))).Forall fun op => op.fresh = ∅ := by
  simp only [List.Forall]; repeat' constructor
theorem hostOps0_15_fr : (hostOps0_15 : List (HloOp τ sig (Elt F))).Forall fun op => op.fresh = ∅ := by
  simp only [List.Forall]; repeat' constructor
theorem hostOps0_16_fr : (hostOps0_16 : List (HloOp τ sig (Elt F))).Forall fun op => op.fresh = ∅ := by
  simp only [List.Forall]; repeat' constructor
theorem hostOps0_17_fr : (hostOps0_17 : List (HloOp τ sig (Elt F))).Forall fun op => op.fresh = ∅ := by
  simp only [List.Forall]; repeat' constructor
theorem hostOps0_18_fr : (hostOps0_18 : List (HloOp τ sig (Elt F))).Forall fun op => op.fresh = ∅ := by
  simp only [List.Forall]; repeat' constructor

/-- What the call finds in each buffer. -/
def V (c : Dev nD) (b : Ref sig .tc) : Buf (Elt F) ((c : Thread nD τ).loc b) :=
  StableHlo.after (opss (F := F)).flatten (fun b => m (c, b)) b

/-- The tables' contents. -/
def T : pre0.Contents (Elt F) := fun k => V m 0 (pre0.ref k)

/-- The argument is as launched when the call starts. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The argument is as launched when the call starts. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The argument is as launched when the call starts. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The argument is as launched when the call starts. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host program is its operations, then the call. -/
theorem hmain : Pipeline.HMainP (Ix := Unit) (Name := ℕ) (U := UR sig nD τ) (Lvl := ℕ) (pcfgs (F := F)) 0 defs₀ Variants.none m (main (F := F)) (V m) :=
  Pipeline.hmainP_prefixes pcfgs 0 defs₀ Variants.none m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩
    ⟨hostOps0_fr, hostOps0_1_fr, hostOps0_2_fr, hostOps0_3_fr, hostOps0_4_fr, hostOps0_5_fr, hostOps0_6_fr, hostOps0_7_fr, hostOps0_8_fr, hostOps0_9_fr, hostOps0_10_fr, hostOps0_11_fr, hostOps0_12_fr, hostOps0_13_fr, hostOps0_14_fr, hostOps0_15_fr, hostOps0_16_fr, hostOps0_17_fr, hostOps0_18_fr⟩ (fun c => main_chain c)

/-- The windows' arrays are the region's. -/
theorem A_eq (hok : ok0 (T m)) (Inv) (c : Dev nD) (w : Fin (cfgT (T m) hok).W) :
    (datX (V m) (T m) hok Inv c).A w = V m c (Pipeline.arrRef spec0 w) := by dsimp only [datX]

set_option backward.isDefEq.respectTransparency.types false in
set_option maxHeartbeats 4000000 in
/-- Every run ends with the output written by blocks that the step relation allows, and the semaphores at zero. -/
theorem run (ρ : Dev nD → PrngReg) (hok : ok0 (T m)) (hchk : Chk (T m))
    (Inv : Nat → (S5120x1024.Idx → Elt F .bf16) → Prop) (hInv0 : ∀ B, Inv 0 B)
    (Rl3 : Fin (cfgT (T m) hok).N → (S512x1024.Idx → Elt F .bf16) → Prop)
    (hstep : ∀ c, Step (V m) (T m) hok Inv Rl3 c) :
    θ_run (defs (F := F)) (onTc (τ := τ) (main (F := F))) ⟨m, fun _ => 0, ρ⟩ (fun r =>
      RDat.FramePost (cfgT (T m) hok) (fun c => rdatX (V m) (T m) hok Inv Rl3 c) (V m) r ∧ r.2.sem = fun _ => 0) :=
  RDat.θ_run_frameP_track (pcfgs (F := F)) (fun _ => ⟨T m, hok⟩) 0 launch0 defs₀ Variants.none
    (fun c => rdatX (V m) (T m) hok Inv Rl3 c) m ρ main
    (fun c => (body_obl (V m) (T m) hok Inv Rl3 hchk c (hstep c)).toRRel)
    (fun c => (datX (V m) (T m) hok Inv c).share_full fun _ => rfl)
    (fun _ _ => rfl) (V m) (hmain m) (fun c w => A_eq m hok Inv c w)
    (fun c k => by obtain rfl : c = 0 := Subsingleton.elim _ _; rfl)
    (fun c => by
      show _ ⊢ (datX (V m) (T m) hok Inv c).Φ 0
      rw [Phi_at]
      unfold Pipeline.ΦA scr pt
      rw [show (Pipeline.scopedRest _ c : sProp 𝕄G) = _ from scopedRest0_eq c, View.set_whole]
      iintro ⟨⟨⟨%f, H⟩, Hp⟩, HT⟩
      isplitl [H]
      · iexists f
        isplitl [H]; · iexact H
        ipureintro; exact hInv0 _
      isplitl [Hp]; · iexact Hp
      iexact HT)
    (fun c => by
      show (datX (V m) (T m) hok Inv c).Φ (Fin.last _) ⊢ _
      rw [Phi_at]
      unfold Pipeline.ΦA scr pt
      rw [show (Pipeline.scopedRest _ c : sProp 𝕄G) = _ from scopedRest0_eq c, View.set_whole]
      iintro ⟨⟨%f, H, %_⟩, Hp, HT⟩
      isplitl [H]
      · iexists f; iexact H
      iexact Hp)
    _ (fun _ h => h)

/-- The arguments end unchanged. -/
theorem args_of (hok : ok0 (T m)) (Inv) (Rl3) (r : PUnit × MemSt nD τ sig (Elt F))
    (h : RDat.FramePost (cfgT (T m) hok) (fun c => rdatX (V m) (T m) hok Inv Rl3 c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.arr_in c 1 rfl).trans (A_eq m hok Inv c 1)).trans (V_main_arg0 m c),
   ((h c).2 main_arg1 (Pipeline.mem_restRefs_of main_arg1 (by decide) (show ∀ w : Fin 4, (spec0 w).arr.view.ref ≠ main_arg1 by decide))).trans (V_main_arg1 m c),
   ((h.arr_in c 2 rfl).trans (A_eq m hok Inv c 2)).trans (V_main_arg2 m c),
   ((h c).2 main_arg3 (Pipeline.mem_restRefs_of main_arg3 (by decide) (show ∀ w : Fin 4, (spec0 w).arr.view.ref ≠ main_arg3 by decide))).trans (V_main_arg3 m c)⟩

end Cert.Kernel.Hand

end
-- ==== Proof.Sched.lean ====
/-
  The schedule of work items, over plain natural numbers: `g` gives the rows of each of 8 experts, the rows of one
  expert come after those of the one before it, and the 12288 rows are cut into 24 tiles of 512. Each expert is visited
  once for every tile that holds a row of it, so a work item is an expert and a tile. What is proved here is what the
  kernel's correctness rests on: the tiles run in order, a tile that several experts share is visited in one run of
  items, its rows are filled from the top, and 31 items are enough.
-/
module

public import Idealize.ShloMosaic.Lib.Routing.Words

@[expose] public section

namespace Cert.Sched

/-- The sum of the first `e` values. -/
def cs (g : Nat → Nat) (e : Nat) : Nat := ((List.range e).map g).sum

/-- Nothing comes before the first group. -/
theorem cs_zero (g : Nat → Nat) : cs g 0 = 0 := rfl
/-- The sum up to the next group. -/
theorem cs_succ (g : Nat → Nat) (e : Nat) : cs g (e + 1) = cs g e + g e := by
  simp [cs, List.range_succ]
/-- The sums grow. -/
theorem cs_mono (g : Nat → Nat) {a b : Nat} (h : a ≤ b) : cs g a ≤ cs g b := by
  induction h with
  | refl => exact le_rfl
  | step _ ih => rw [cs_succ]; omega

/-- The number of tiles that hold a row of expert `e`. -/
def nt (g : Nat → Nat) (e : Nat) : Nat := if 0 < g e then (cs g (e + 1) - 1) / 512 - cs g e / 512 + 1 else 0

/-- The expert of item `j` (8 when there is none). -/
def cnt (g : Nat → Nat) (j : Nat) : Nat := Nat.count (fun e => cs (nt g) (e + 1) ≤ j) 8

/-- The tile of item `j`. -/
def tile (g : Nat → Nat) (j : Nat) : Nat :=
  if cnt g j < 8 then cs g (cnt g j) / 512 + (j - cs (nt g) (cnt g j)) else 23

/-- The rows of its tile that item `j` and the ones before it have filled end here. -/
def cov (g : Nat → Nat) (j : Nat) : Nat := if cnt g j < 8 then cs g (cnt g j + 1) else 12288

/-- Counting where a monotone function is at most a bound gives the first place where it is more. -/
theorem count_mono (f : Nat → Nat) (hf : ∀ a b, a ≤ b → f a ≤ f b) (j n : Nat) :
    Nat.count (fun e => f e ≤ j) n ≤ n ∧ (∀ e < Nat.count (fun e => f e ≤ j) n, f e ≤ j)
      ∧ ∀ e, Nat.count (fun e => f e ≤ j) n ≤ e → e < n → j < f e := by
  induction n with
  | zero => simp
  | succ n ih =>
    obtain ⟨h1, h2, h3⟩ := ih
    rw [Nat.count_succ]
    by_cases h : f n ≤ j
    · have hk : Nat.count (fun e => f e ≤ j) n = n := by
        by_contra hne
        have := h3 _ le_rfl (by omega)
        have := hf (Nat.count (fun e => f e ≤ j) n) n h1
        omega
      rw [if_pos h, hk]
      refine ⟨le_rfl, fun e he => ?_, fun e h4 h5 => by omega⟩
      exact (hf e n (by omega)).trans h
    · rw [if_neg h]
      refine ⟨by omega, h2, fun e h4 h5 => ?_⟩
      rcases Nat.lt_or_ge e n with h6 | h6
      · exact h3 e h4 h6
      · obtain rfl : e = n := by omega
        omega

variable (g : Nat → Nat)

/-- An item's expert: the item lies between the expert's first item and the next expert's. -/
theorem cnt_spec (j : Nat) (h : cnt g j < 8) : cs (nt g) (cnt g j) ≤ j ∧ j < cs (nt g) (cnt g j + 1) := by
  obtain ⟨_, h2, h3⟩ := count_mono (fun e => cs (nt g) (e + 1)) (fun a b hab => cs_mono _ (by omega)) j 8
  refine ⟨?_, h3 _ le_rfl h⟩
  rcases Nat.eq_zero_or_pos (cnt g j) with h0 | h0
  · rw [h0, cs_zero]; omega
  · have := h2 (cnt g j - 1) (by unfold cnt at *; omega)
    rwa [Nat.sub_add_cancel h0] at this

/-- The number of experts whose items come before. -/
theorem cnt_le (j : Nat) : cnt g j ≤ 8 :=
  (count_mono (fun e => cs (nt g) (e + 1)) (fun a b hab => cs_mono _ (by omega)) j 8).1

/-- The expert of an item is the only one whose items contain it. -/
theorem cnt_eq {j e : Nat} (he : e < 8) (h1 : cs (nt g) e ≤ j) (h2 : j < cs (nt g) (e + 1)) : cnt g j = e := by
  obtain ⟨_, h3, h4⟩ := count_mono (fun e => cs (nt g) (e + 1)) (fun a b hab => cs_mono _ (by omega)) j 8
  change ∀ e < cnt g j, _ at h3
  change ∀ e, cnt g j ≤ e → _ at h4
  rcases Nat.lt_trichotomy (cnt g j) e with h | h | h
  · have := h4 (cnt g j) le_rfl (by omega)
    have := cs_mono (nt g) (show cnt g j + 1 ≤ e by omega)
    omega
  · exact h
  · have := h3 e h
    omega

/-- An item has an expert exactly when it is among the items in use. -/
theorem cnt_valid {j : Nat} : cnt g j < 8 ↔ j < cs (nt g) 8 := by
  obtain ⟨_, h3, h4⟩ := count_mono (fun e => cs (nt g) (e + 1)) (fun a b hab => cs_mono _ (by omega)) j 8
  change ∀ e < cnt g j, _ at h3
  constructor
  · intro h
    have := (cnt_spec g j h).2
    have := cs_mono (nt g) (show cnt g j + 1 ≤ 8 by omega)
    omega
  · intro h
    by_contra hc
    have : cs (nt g) 8 ≤ j := h3 7 (by omega)
    omega

/-- Later items belong to later experts. -/
theorem cnt_mono {i j : Nat} (h : i ≤ j) : cnt g i ≤ cnt g j := by
  rcases Nat.lt_or_ge (cnt g j) 8 with hj | hj
  · have hi : cnt g i < 8 := (cnt_valid g).2 (by have := (cnt_valid g).1 hj; omega)
    by_contra hc
    have h1 := (cnt_spec g i hi).1
    have h2 := (cnt_spec g j hj).2
    have := cs_mono (nt g) (show cnt g j + 1 ≤ cnt g i by omega)
    omega
  · have := cnt_le g i; omega

/-- An expert with items has rows. -/
theorem nt_pos {e : Nat} (h : 0 < nt g e) : 0 < g e := by
  unfold nt at h
  split at h
  · assumption
  · omega

/-- The number of tiles that a group with rows touches. -/
theorem nt_of {e : Nat} (h : 0 < g e) : nt g e = (cs g (e + 1) - 1) / 512 - cs g e / 512 + 1 := if_pos h

/-- No more items than rows' tiles and boundaries. -/
theorem cum_le (e : Nat) : cs (nt g) (e + 1) ≤ (if cs g (e + 1) = 0 then 0 else (cs g (e + 1) - 1) / 512 + 1 + e) := by
  induction e with
  | zero =>
    rw [cs_succ, cs_zero, cs_succ, cs_zero]
    unfold nt
    rw [cs_succ, cs_zero]
    split <;> split <;> omega
  | succ e ih =>
    rw [cs_succ (nt g) (e + 1)]
    have hs := cs_succ g (e + 1)
    have hn : nt g (e + 1) = if 0 < g (e + 1) then (cs g (e + 1 + 1) - 1) / 512 - cs g (e + 1) / 512 + 1 else 0 := rfl
    generalize nt g (e + 1) = x at *
    split at ih <;> split at hn <;> split <;> omega

section Fill
variable (hg : cs g 8 = 12288)
include hg

/-- There are at most 31 items. -/
theorem cum8_le : cs (nt g) 8 ≤ 31 := by
  have := cum_le g 7
  rw [hg] at this
  simpa using this

/-- Facts of a valid item: its expert has rows, its tile holds one of them. -/
theorem item {j : Nat} (h : cnt g j < 8) : 0 < g (cnt g j) ∧ tile g j = cs g (cnt g j) / 512 + (j - cs (nt g) (cnt g j))
    ∧ tile g j ≤ (cs g (cnt g j + 1) - 1) / 512 ∧ cs g (cnt g j + 1) ≤ 12288 ∧ cs g (cnt g j) < cs g (cnt g j + 1)
    ∧ cs (nt g) (cnt g j) ≤ j ∧ j < cs (nt g) (cnt g j + 1) := by
  obtain ⟨h1, h2⟩ := cnt_spec g j h
  have h3 := cs_succ (nt g) (cnt g j)
  have h4 : 0 < g (cnt g j) := nt_pos g (by omega)
  have h5 := nt_of g h4
  have h6 : tile g j = cs g (cnt g j) / 512 + (j - cs (nt g) (cnt g j)) := if_pos h
  have h7 := cs_mono g (show cnt g j + 1 ≤ 8 by omega)
  have h8 := cs_succ g (cnt g j)
  refine ⟨h4, h6, ?_, by omega, by omega, h1, h2⟩
  have : cs g (cnt g j) / 512 ≤ (cs g (cnt g j + 1) - 1) / 512 := Nat.div_le_div_right (by omega)
  omega

/-- An item's tile is one of the 24. -/
theorem tile_lt (j : Nat) : tile g j < 24 := by
  rcases Nat.lt_or_ge (cnt g j) 8 with h | h
  · obtain ⟨_, _, h3, h4, _⟩ := item g hg h
    omega
  · unfold tile; rw [if_neg (by omega)]; omega

/-- The item after the last of expert `e`: the next expert that has rows starts where `e` ends. -/
theorem next_expert {e e' : Nat} (he : e < e') (he' : e' ≤ 8) (hc : cs (nt g) (e + 1) = cs (nt g) e') : cs g (e + 1) = cs g e' := by
  induction e' with
  | zero => omega
  | succ k ih =>
    rcases Nat.lt_or_ge e k with h | h
    · have h1 := cs_mono (nt g) (show e + 1 ≤ k by omega)
      have h2 := cs_succ (nt g) k
      have h3 := ih h (by omega) (by omega)
      have h4 : g k = 0 := by
        by_contra hne
        have := nt_of g (show 0 < g k by omega)
        omega
      rw [h3, cs_succ g k, h4]; rfl
    · obtain rfl : e = k := by omega
      rfl

/-- An item that follows a valid one: the next tile of the same expert, or the first of the next expert that has rows,
or none, the last expert being done. -/
theorem step {j : Nat} (h : cnt g j < 8) :
    (cnt g (j + 1) = cnt g j ∧ tile g (j + 1) = tile g j + 1)
    ∨ (cnt g j < cnt g (j + 1) ∧ tile g j = (cs g (cnt g j + 1) - 1) / 512 ∧ cs g (cnt g (j + 1)) = cs g (cnt g j + 1)
        ∧ (cnt g (j + 1) < 8 → tile g (j + 1) = cs g (cnt g j + 1) / 512)) := by
  obtain ⟨h1, h2, h3, h4, h5, h6, h7⟩ := item g hg h
  rcases Nat.lt_or_ge (j + 1) (cs (nt g) (cnt g j + 1)) with hl | hl
  · left
    have he : cnt g (j + 1) = cnt g j := cnt_eq g h (by omega) hl
    refine ⟨he, ?_⟩
    have := (item g hg (j := j + 1) (by omega)).2.1
    rw [this, he, h2]; omega
  · right
    have hj : j + 1 = cs (nt g) (cnt g j + 1) := by omega
    have hn := nt_of g h1
    have hs := cs_succ (nt g) (cnt g j)
    have hle := cnt_le g (j + 1)
    have hmono := cnt_mono g (show j ≤ j + 1 by omega)
    have hlt : cnt g j < cnt g (j + 1) := by
      rcases Nat.lt_or_ge (cnt g j) (cnt g (j + 1)) with hx | hx
      · exact hx
      · have hxe : cnt g (j + 1) = cnt g j := by omega
        have := (cnt_spec g (j + 1) (by omega)).2
        rw [hxe] at this; omega
    have hcs : cs (nt g) (cnt g j + 1) = cs (nt g) (cnt g (j + 1)) := by
      rcases Nat.lt_or_ge (cnt g (j + 1)) 8 with hx | hx
      · have := (cnt_spec g (j + 1) hx).1
        have := cs_mono (nt g) (show cnt g j + 1 ≤ cnt g (j + 1) by omega)
        omega
      · have hx8 : cnt g (j + 1) = 8 := by omega
        have := cs_mono (nt g) (show cnt g j + 1 ≤ 8 by omega)
        have hv : ¬ (j + 1 < cs (nt g) 8) := fun hv => by have := (cnt_valid g).2 hv; omega
        rw [hx8]; omega
    have hne := next_expert g hg hlt hle hcs
    have hdiv : cs g (cnt g j) / 512 ≤ (cs g (cnt g j + 1) - 1) / 512 := Nat.div_le_div_right (by omega)
    refine ⟨hlt, by omega, hne.symm, fun hx => ?_⟩
    have := (item g hg hx).2.1
    rw [← hne] at this
    omega

/-- Some item is in use. -/
theorem pos8 : 0 < cs (nt g) 8 := by
  by_contra hc
  have h0 : cs (nt g) 8 = 0 := by omega
  have : ∀ k ≤ 8, cs g k = 0 := by
    intro k
    induction k with
    | zero => intro _; rfl
    | succ k ih =>
      intro hk
      have h1 := cs_mono (nt g) hk
      have h2 := cs_succ (nt g) k
      have h4 : g k = 0 := by
        by_contra hne
        have := nt_of g (show 0 < g k by omega)
        omega
      rw [cs_succ, ih (by omega), h4]
  have := this 8 le_rfl
  omega

/-- The first item is in use. -/
theorem valid0 : cnt g 0 < 8 := (cnt_valid g).2 (pos8 g hg)

/-- The first item starts at row 0. -/
theorem first : cs g (cnt g 0) = 0 ∧ tile g 0 = 0 := by
  obtain ⟨h1, h2, h3, h4, h5, h6, h7⟩ := item g hg (valid0 g hg)
  have h0 : cs (nt g) (cnt g 0) = 0 := by omega
  have hz : cs g (cnt g 0) = 0 := by
    have : ∀ k ≤ cnt g 0, cs g k = 0 := by
      intro k
      induction k with
      | zero => intro _; rfl
      | succ k ih =>
        intro hk
        have h1 := cs_mono (nt g) hk
        have h2 := cs_succ (nt g) k
        have h4 : g k = 0 := by
          by_contra hne
          have := nt_of g (show 0 < g k by omega)
          omega
        rw [cs_succ, ih (by omega), h4]
    exact this _ le_rfl
  refine ⟨hz, ?_⟩
  rw [h2, hz]; omega

/-- An item none of whose rows lie above its expert's first row starts its tile or has no need of what is above; any
other item finds its tile in the item before it, filled up to its expert's first row. -/
theorem above {j : Nat} (h : ¬ (cnt g j < 8 ∧ cs g (cnt g j) ≤ tile g j * 512)) :
    0 < j ∧ tile g (j - 1) = tile g j ∧ (cnt g j < 8 → cs g (cnt g j) ≤ cov g (j - 1)) ∧ (¬ cnt g j < 8 → cov g (j - 1) = 12288) := by
  have hj : 0 < j := by
    rcases Nat.eq_zero_or_pos j with h0 | h0
    · subst h0
      have h1 := valid0 g hg
      have h2 := first g hg
      exact absurd ⟨h1, by omega⟩ h
    · exact h0
  obtain ⟨i, rfl⟩ : ∃ i, j = i + 1 := ⟨j - 1, by omega⟩
  rw [Nat.add_sub_cancel]
  refine ⟨hj, ?_⟩
  rcases Nat.lt_or_ge (cnt g i) 8 with hi | hi
  · have hc : cov g i = cs g (cnt g i + 1) := if_pos hi
    obtain ⟨a1, a2, a3, a4, a5, a6, a7⟩ := item g hg hi
    rcases step g hg hi with ⟨s1, s2⟩ | ⟨s1, s2, s3, s4⟩
    · refine absurd ⟨by omega, ?_⟩ h
      rw [s1, s2]
      omega
    · rcases Nat.lt_or_ge (cnt g (i + 1)) 8 with hv | hv
      · have s5 := s4 hv
        have hlt : tile g (i + 1) * 512 < cs g (cnt g (i + 1)) := by
          by_contra hcon
          exact h ⟨hv, by omega⟩
        refine ⟨by omega, fun _ => by omega, fun hn => absurd hv hn⟩
      · have h8 : cnt g (i + 1) = 8 := by have := cnt_le g (i + 1); omega
        rw [h8, hg] at s3
        have : tile g (i + 1) = 23 := if_neg (by omega)
        refine ⟨by omega, fun hn => by omega, fun _ => by omega⟩
  · have hv : ¬ cnt g (i + 1) < 8 := by have := cnt_mono g (show i ≤ i + 1 by omega); omega
    have t1 : tile g i = 23 := if_neg (by omega)
    have t2 : tile g (i + 1) = 23 := if_neg hv
    have t3 : cov g i = 12288 := if_neg (by omega)
    exact ⟨by omega, fun hn => absurd hn hv, fun _ => t3⟩

/-- When the next item, if there is one, has another tile, this one has filled its own. -/
theorem full {j : Nat} (hj : j < 31) (h : ¬ (j < 30 ∧ tile g (j + 1) = tile g j)) : tile g j * 512 + 512 ≤ cov g j := by
  have hlt := tile_lt g hg j
  rcases Nat.lt_or_ge (cnt g j) 8 with hi | hi
  · have hc : cov g j = cs g (cnt g j + 1) := if_pos hi
    obtain ⟨a1, a2, a3, a4, a5, a6, a7⟩ := item g hg hi
    rcases step g hg hi with ⟨s1, s2⟩ | ⟨s1, s2, s3, s4⟩
    · obtain ⟨b1, b2, b3, b4, b5, b6, b7⟩ := item g hg (j := j + 1) (by omega)
      rw [s1] at b3
      omega
    · rcases Nat.lt_or_ge (cnt g (j + 1)) 8 with hv | hv
      · have s5 := s4 hv
        have h31 := cum8_le g hg
        have := (cnt_valid g).1 hv
        have : ¬ tile g (j + 1) = tile g j := fun he => h ⟨by omega, he⟩
        omega
      · have h8 : cnt g (j + 1) = 8 := by have := cnt_le g (j + 1); omega
        rw [h8, hg] at s3
        omega
  · have hc : cov g j = 12288 := if_neg (by omega)
    omega

/-- Every row has its expert. -/
theorem expert_of {r : Nat} (hr : r < 12288) : ∃ e < 8, cs g e ≤ r ∧ r < cs g (e + 1) := by
  have key : ∀ k ≤ 8, r < cs g k → ∃ e < k, cs g e ≤ r ∧ r < cs g (e + 1) := by
    intro k
    induction k with
    | zero => intro _ h; rw [cs_zero] at h; omega
    | succ k ih =>
      intro hk h
      rcases Nat.lt_or_ge r (cs g k) with h1 | h1
      · obtain ⟨e, he, h2⟩ := ih (by omega) h1
        exact ⟨e, by omega, h2⟩
      · exact ⟨k, by omega, h1, h⟩
  exact key 8 le_rfl (by omega)

/-- Every tile has its item. -/
theorem tile_of {t : Nat} (ht : t < 24) : ∃ j < 31, tile g j = t := by
  obtain ⟨e, he, h1, h2⟩ := expert_of g hg (r := t * 512) (by omega)
  have h3 := cs_succ g e
  rcases Nat.eq_or_lt_of_le h1 with heq | hlt'
  all_goals
    have hn := nt_of g (show 0 < g e by omega)
    have h4 := cs_succ (nt g) e
    have h5 := cs_mono (nt g) (show e + 1 ≤ 8 by omega)
    have h6 := cum8_le g hg
    have h7 : cs g e / 512 ≤ t := by omega
    have h8 : t ≤ (cs g (e + 1) - 1) / 512 := by omega
    have hc : cnt g (cs (nt g) e + (t - cs g e / 512)) = e := cnt_eq g he (by omega) (by omega)
    refine ⟨cs (nt g) e + (t - cs g e / 512), by omega, ?_⟩
    unfold tile
    rw [hc, if_pos he]
    omega

/-- The experts' rows do not overlap. -/
theorem expert_unique {r e e' : Nat} (h1 : cs g e ≤ r) (h2 : r < cs g (e + 1)) (h3 : cs g e' ≤ r) (h4 : r < cs g (e' + 1)) : e = e' := by
  rcases Nat.lt_trichotomy e e' with h | h | h
  · have := cs_mono g (show e + 1 ≤ e' by omega); omega
  · exact h
  · have := cs_mono g (show e' + 1 ≤ e by omega); omega

end Fill

end Cert.Sched
-- ==== Proof.Tab.lean ====
/-
  The tables of work items as the host computes them from the group sizes, read word by word: each table's word at an
  item is the number the schedule (`Sched`) gives it. The vectors are variables here, tied to each other by the
  equations the program's operations give (`Eqs`), so that both printings of the program use the same text.
-/
module

public import Idealize.ShloMosaic.Lib.Routing.Words
public import Idealize.ShloMosaic.Lib.Routing.OpsPair
public import Idealize.ShloMosaic.Lib.Routing.OpsSet
public import Idealize.ShloMosaic.Lib.ReduceAll
public import Idealize.ShloMosaic.Lib.Pipeline.Value
public import proofs.«01_k».proof.Proof.Sched

@[expose] public section

noncomputable section

namespace Cert.Tab

open Idealize.ShloMosaic Idealize.ShloMosaic.Routing Idealize.ShloMosaic.ValueIdx Idealize.ShloMosaic.WordCmp
open Cert.Sched

/-- The group sizes as numbers. -/
def G (g : IVec (shape1 8) 32) (e : Nat) : Nat := if h : e < 8 then (g (ix1 ⟨e, h⟩)).toNat else 0

/-- `x[eid]` as it prints: the index wrapped if negative, as a column of starts. -/
def Take (x : IVec (shape1 8) 32) (eid : IVec (shape1 31) 32) (y : IVec (shape1 31) 32) : Prop :=
  ∃ (d : GatherDims (shape1 8) (shape2 31 1) (shape1 31)) (hb : shape0.BroadcastsInDim (shape1 31) (![] : Fin 0 → Fin (shape1 31).rank))
    (hc : (shape1 31).BroadcastsInDim (shape2 31 1) (![0] : Fin 1 → Fin (shape2 31 1).rank)),
    d.collapsedSliceDims = [0] ∧ d.operandBatchingDims = [] ∧ d.startIndexMap = [0] ∧ d.indexVectorDim = 1
    ∧ y = Host.gather d x (broadcastInDim (shape2 31 1) ![0] hc
      (select (cmpi .slt eid (broadcastInDim (shape1 31) ![] hb (constantI shape0 32 0#32)))
        (addi eid (broadcastInDim (shape1 31) ![] hb (constantI shape0 32 8#32))) eid))

/-- The vectors' equations. -/
structure Eqs (g v0 v1 v2 v7 v11 v12 : IVec (shape1 8) 32) (v27 : IVec shape0 32) (v22 : IVec (shape1 31) 1)
    (v20 v28 v35 v43 v50 v53 v60 v61 v68 v69 v75 : IVec (shape1 31) 32) : Prop where
  e0 : ∃ h hu hb, v0 = Host.reduceWindow IntOp.addi ![8] ![1] ![7] ![0] g (broadcastInDim shape0 ![] hb (constantI shape0 32 0#32)) h hu
  e1 : v1 = subi v0 g
  e2 : ∃ hb, v2 = pyDiv hb v1 (constantI shape0 32 512#32)
  e7 : ∃ hb, v7 = pyDiv hb (subi v0 (broadcastInDim (shape1 8) ![] hb (constantI shape0 32 1#32))) (constantI shape0 32 512#32)
  e11 : ∃ hb, v11 = select (cmpi .sgt g (broadcastInDim (shape1 8) ![] hb (constantI shape0 32 0#32)))
    (addi (subi v7 v2) (broadcastInDim (shape1 8) ![] hb (constantI shape0 32 1#32))) (broadcastInDim (shape1 8) ![] hb (constantI shape0 32 0#32))
  e12 : ∃ h hu hb, v12 = Host.reduceWindow IntOp.addi ![8] ![1] ![7] ![0] v11 (broadcastInDim shape0 ![] hb (constantI shape0 32 0#32)) h hu
  e20 : ∃ h1 h2 h3 h4 hw h hu, v20 = Host.reduce IntOp.addi (extui 32 (cmpi .sge
      (broadcastInDim (shape2 31 8) ![0, 1] h2 (broadcastInDim (shape2 31 1) ![0] h1 (iotaInDim (shape1 31) 32 0)))
      (broadcastInDim (shape2 31 8) ![0, 1] h4 (broadcastInDim (shape2 1 8) ![1] h3 v12))) hw) (constantI shape0 32 0#32)
      (h : (shape2 31 8).ReducesTo [1] (shape1 31)) hu
  e22 : ∃ hb, v22 = cmpi .slt v20 (broadcastInDim (shape1 31) ![] hb (constantI shape0 32 8#32))
  e27 : ∃ hb h hu, v27 = Host.reduce IntOp.maxsi (select (cmpi .sgt g (broadcastInDim (shape1 8) ![] hb (constantI shape0 32 0#32)))
      (iotaInDim (shape1 8) 32 0) (broadcastInDim (shape1 8) ![] hb (constantI shape0 32 0#32))) (constantI shape0 32 2147483648#32)
      (h : (shape1 8).ReducesTo [0] shape0) hu
  e28 : ∃ hb, v28 = select v22 v20 (broadcastInDim (shape1 31) ![] hb v27)
  e35 : Take v2 v28 v35
  e43 : Take v12 v28 v43
  e50 : Take v11 v28 v50
  e60 : Take v1 v28 v60
  e68 : Take v0 v28 v68
  e53 : ∃ hb, v53 = select v22 (subi (addi v35 (iotaInDim (shape1 31) 32 0)) (subi v43 v50)) (broadcastInDim (shape1 31) ![] hb (constantI shape0 32 23#32))
  e61 : ∃ hb, v61 = select v22 v60 (broadcastInDim (shape1 31) ![] hb (constantI shape0 32 0#32))
  e69 : ∃ hb, v69 = select v22 v68 (broadcastInDim (shape1 31) ![] hb (constantI shape0 32 0#32))
  e75 : ∃ hb hs1 hs0 hw h, v75 = concatenate (shape1 31) 0 [⟨shape1 1, broadcastInDim (shape1 1) ![] hb (constantI shape0 32 1#32)⟩,
      ⟨shape1 30, extui 32 (cmpi .ne (extractStridedSlice (shape1 30) ![1] v28 hs1) (extractStridedSlice (shape1 30) ![0] v28 hs0)) hw⟩] h

/-- A word is the word of its number. -/
theorem ofNat_toNat32 (x : BitVec 32) : BitVec.ofNat 32 x.toNat = x := by simp

/-- Both bits of a conjunction that holds. -/
theorem and1 {a b : BitVec 1} : IntOp.andi a b = 1#1 → a = 1#1 ∧ b = 1#1 := by
  revert a b
  decide

/-- A maximum stays an expert number. -/
theorem maxsi_small {r a : BitVec 32} (ha : a.toNat < 8) (hr : r = 2147483648#32 ∨ r.toNat < 8) : (IntOp.maxsi r a).toNat < 8 := by
  unfold IntOp.maxsi
  split
  · next h =>
    rcases hr with rfl | hr
    · exfalso
      have ea : a = BitVec.ofNat 32 a.toNat := (ofNat_toNat32 a).symm
      generalize a.toNat = k at *
      subst ea
      interval_cases k <;> revert h <;> decide
    · exact hr
  · exact ha

/-- The largest of expert numbers is one. -/
theorem foldl_max {ι : Type} (a : ι → BitVec 32) : ∀ (l : List ι), (∀ n ∈ l, (a n).toNat < 8) → ∀ r : BitVec 32,
    (r = 2147483648#32 ∨ r.toNat < 8) → (l ≠ [] ∨ r.toNat < 8) → (l.foldl (fun r n => IntOp.maxsi r (a n)) r).toNat < 8
  | [], _, r, _, h => by
    rcases h with h | h
    · exact absurd rfl h
    · exact h
  | n :: l, hl, r, hr, _ => by
    have h1 := maxsi_small (hl n (by simp)) hr
    exact foldl_max a l (fun k hk => hl k (by simp [hk])) _ (.inr h1) (.inr h1)

section
variable {g v0 v1 v2 v7 v11 v12 : IVec (shape1 8) 32} {v27 : IVec shape0 32} {v22 : IVec (shape1 31) 1}
  {v20 v28 v35 v43 v50 v53 v60 v61 v68 v69 v75 : IVec (shape1 31) 32}
variable (E : Eqs g v0 v1 v2 v7 v11 v12 v27 v22 v20 v28 v35 v43 v50 v53 v60 v61 v68 v69 v75) (hg : cs (G g) 8 = 12288)
include E hg

/-- No group ends after the last row. -/
theorem csle {e : Nat} (he : e ≤ 8) : cs (G g) e ≤ 12288 := hg ▸ cs_mono _ he

/-- A group's size. -/
theorem wg (e : Fin 8) : g (ix1 e) = BitVec.ofNat 32 (G g e.val) := by
  unfold G; rw [dif_pos e.isLt]; exact (ofNat_toNat32 _).symm

/-- A group's end. -/
theorem w0 (e : Fin 8) : v0 (ix1 e) = BitVec.ofNat 32 (cs (G g) (e.val + 1)) := by
  obtain ⟨h, hu, hb, e0⟩ := E.e0
  rw [e0]
  exact cumsum1 (N := 8) (Nm1 := 7) rfl g (G g) (wg E hg) _ (bc0 _ _ _) h hu e

/-- A group's start. -/
theorem w1 (e : Fin 8) : v1 (ix1 e) = BitVec.ofNat 32 (cs (G g) e.val) := by
  rw [E.e1, subi_ap, w0 E hg, wg E hg, ofNat32_sub (by rw [cs_succ]; omega), cs_succ, Nat.add_sub_cancel]

/-- A group's first tile. -/
theorem w2 (e : Fin 8) : v2 (ix1 e) = BitVec.ofNat 32 (cs (G g) e.val / 512) := by
  obtain ⟨hb, e2⟩ := E.e2
  have := csle E hg (show e.val ≤ 8 by omega)
  rw [e2, pyDiv_ap hb v1 _ (ix1 e) (w1 E hg e) (rfl : _ = BitVec.ofNat 32 512) (by omega) (by omega) (by omega)]

/-- A group's last tile. -/
theorem w7 (e : Fin 8) (h : 0 < G g e.val) : v7 (ix1 e) = BitVec.ofNat 32 ((cs (G g) (e.val + 1) - 1) / 512) := by
  obtain ⟨hb, e7⟩ := E.e7
  have := csle E hg (show e.val + 1 ≤ 8 by omega)
  have hs := cs_succ (G g) e.val
  rw [e7, pyDiv_ap hb _ _ (ix1 e) (a := cs (G g) (e.val + 1) - 1) ?_ (rfl : _ = BitVec.ofNat 32 512) (by omega) (by omega) (by omega)]
  rw [subi_ap, bc0, constantI_at, w0 E hg, show (1#32 : BitVec 32) = BitVec.ofNat 32 1 from rfl, ofNat32_sub (by omega)]

/-- The number of a group's tiles. -/
theorem w11 (e : Fin 8) : v11 (ix1 e) = BitVec.ofNat 32 (nt (G g) e.val) := by
  obtain ⟨hb, e11⟩ := E.e11
  have h1 := csle E hg (show e.val + 1 ≤ 8 by omega)
  have hs := cs_succ (G g) e.val
  rw [e11, select_at, cmpi_at, bc0, constantI_at, wg E hg, show (0#32 : BitVec 32) = BitVec.ofNat 32 0 from rfl,
    cmpi_sgt_ofNat (w := 32) (by omega) (by omega), WordCmp.select_decide]
  unfold nt
  by_cases h : 0 < G g e.val
  · rw [if_pos h, if_pos h, addi_ap, subi_ap, bc0, constantI_at, w7 E hg e h, w2 E hg e, ofNat32_sub (Nat.div_le_div_right (by omega)),
      show (1#32 : BitVec 32) = BitVec.ofNat 32 1 from rfl, BitVec.ofNat_add_ofNat]
  · rw [if_neg h, if_neg h]

/-- The number of items up to an expert. -/
theorem w12 (e : Fin 8) : v12 (ix1 e) = BitVec.ofNat 32 (cs (nt (G g)) (e.val + 1)) := by
  obtain ⟨h, hu, hb, e12⟩ := E.e12
  rw [e12]
  exact cumsum1 (N := 8) (Nm1 := 7) rfl v11 (nt (G g)) (w11 E hg) _ (bc0 _ _ _) h hu e

/-- No more than 31 items. -/
theorem ctle {e : Nat} (he : e ≤ 8) : cs (nt (G g)) e ≤ 31 := (cs_mono _ he).trans (cum8_le _ hg)

/-- An item's expert, by counting. -/
theorem w20 (j : Fin 31) : v20 (ix1 j) = BitVec.ofNat 32 (cnt (G g) j.val) := by
  obtain ⟨h1, h2, h3, h4, hw, h, hu, e20⟩ := E.e20
  rw [e20]
  refine reduce_count (n := 31) (m := 8) (by omega) _ hw h hu j (fun e => cs (nt (G g)) (e + 1) ≤ j.val) fun q => ?_
  have hq := ctle E hg (show q.val + 1 ≤ 8 by omega)
  rw [cmpi_at, bcRows, bcCols, w12 E hg, iota1_ap, cmpi_sge_ofNat_eq_one_iff (w := 32) (by omega) (by omega)]

/-- Whether an item is in use. -/
theorem w22 (j : Fin 31) : v22 (ix1 j) = BitVec.ofBool (decide (cnt (G g) j.val < 8)) := by
  obtain ⟨hb, e22⟩ := E.e22
  have := cnt_le (G g) j.val
  rw [e22, cmpi_at, bc0, constantI_at, w20 E hg, show (8#32 : BitVec 32) = BitVec.ofNat 32 8 from rfl,
    cmpi_slt_ofNat (w := 32) (by omega) (by omega)]

/-- The last expert with rows. -/
theorem w27 : (v27 ix0).toNat < 8 := by
  obtain ⟨hb, h, hu, e27⟩ := E.e27
  rw [e27]
  unfold Host.reduce
  rw [List.filter_eq_self.2 fun n _ => decide_eq_true (funext fun a => a.elim0)]
  refine foldl_max (fun n => _) _ (fun n _ => ?_) _ (.inl rfl) (.inl ?_)
  · rw [symm1, select_at, bc0, constantI_at, iota1_ap]
    unfold Scalar.select
    split
    · have := (n.cast (numel1 8)).isLt
      rw [BitVec.toNat_ofNat]
      omega
    · decide
  · intro hn
    have := congrArg List.length hn
    rw [List.length_finRange, numel1] at this
    simp at this

/-- An item's expert, the last one with rows past the end. -/
theorem w28 (j : Fin 31) : v28 (ix1 j) = if cnt (G g) j.val < 8 then BitVec.ofNat 32 (cnt (G g) j.val) else v27 ix0 := by
  obtain ⟨hb, e28⟩ := E.e28
  rw [e28, select_at, w22 E hg, WordCmp.select_decide, w20 E hg, bc0]

/-- An item's expert is one of the eight. -/
theorem w28_lt (j : Fin 31) : (v28 (ix1 j)).toNat < 8 := by
  rw [w28 E hg]
  split
  · rw [BitVec.toNat_ofNat]; omega
  · exact w27 E hg

/-- A table read at an item's expert. -/
theorem take (x y) (h : Take x v28 y) (j : Fin 31) (hv : cnt (G g) j.val < 8) : y (ix1 j) = x (ix1 ⟨cnt (G g) j.val, hv⟩) := by
  obtain ⟨d, hb, hc, d1, d2, d3, d4, rfl⟩ := h
  refine gather_take1 d d1 d2 d3 d4 x _ j ⟨cnt (G g) j.val, hv⟩ ?_ (by omega)
  have hw := w28 E hg j
  rw [if_pos hv] at hw
  rw [bcCol, select_at, cmpi_at, bc0, constantI_at, wrap_of_lt _ _ (by have := w28_lt E hg j; omega), hw]

/-- An item's tile. -/
theorem w53 (j : Fin 31) : v53 (ix1 j) = BitVec.ofNat 32 (tile (G g) j.val) := by
  obtain ⟨hb, e53⟩ := E.e53
  rw [e53, select_at, w22 E hg, WordCmp.select_decide]
  unfold tile
  by_cases h : cnt (G g) j.val < 8
  · obtain ⟨a1, a2⟩ := cnt_spec _ _ h
    have hs := cs_succ (nt (G g)) (cnt (G g) j.val)
    rw [if_pos h, if_pos h, subi_ap, addi_ap, subi_ap, take E hg v2 v35 E.e35 j h, take E hg v12 v43 E.e43 j h, take E hg v11 v50 E.e50 j h,
      w2 E hg, w12 E hg, w11 E hg, iota1_ap]
    simp only
    rw [BitVec.ofNat_add_ofNat, ofNat32_sub (by omega), hs, Nat.add_sub_cancel, ofNat32_sub (by omega)]
    congr 1
    omega
  · rw [if_neg h, if_neg h, bc0, constantI_at]

/-- The first row of an item's group. -/
theorem w61 (j : Fin 31) : v61 (ix1 j) = BitVec.ofNat 32 (if cnt (G g) j.val < 8 then cs (G g) (cnt (G g) j.val) else 0) := by
  obtain ⟨hb, e61⟩ := E.e61
  rw [e61, select_at, w22 E hg, WordCmp.select_decide]
  split
  · next h => rw [take E hg v1 v60 E.e60 j h, w1 E hg]
  · rw [bc0, constantI_at]

/-- The row after an item's group. -/
theorem w69 (j : Fin 31) : v69 (ix1 j) = BitVec.ofNat 32 (if cnt (G g) j.val < 8 then cs (G g) (cnt (G g) j.val + 1) else 0) := by
  obtain ⟨hb, e69⟩ := E.e69
  rw [e69, select_at, w22 E hg, WordCmp.select_decide]
  split
  · next h => rw [take E hg v0 v68 E.e68 j h, w0 E hg]
  · rw [bc0, constantI_at]

/-- An item that is not fresh has the expert of the one before it. -/
theorem w75 (j : Fin 31) (h : v75 (ix1 j) ≠ 1#32) : ∃ i : Fin 31, i.val + 1 = j.val ∧ v28 (ix1 i) = v28 (ix1 j) := by
  obtain ⟨hb, hs1, hs0, hw, hc, e75⟩ := E.e75
  rcases Nat.eq_zero_or_pos j.val with h0 | h0
  · refine absurd ?_ h
    rw [e75, concatenate_pair_apply_left (s₁ := shape1 1) (s₂ := shape1 30) 0 _ _ hc (ix1 j) rfl (ix1 0) (fun b => by
      match b with
      | ⟨0, _⟩ => exact h0.symm), bc0, constantI_at]
  · have hj := j.isLt
    refine ⟨⟨j.val - 1, by omega⟩, by simp only; omega, ?_⟩
    by_contra hne
    refine h ?_
    have hx : (⟨1 + (⟨j.val - 1, by omega⟩ : Fin 30).val, by simp only; omega⟩ : Fin 31) = j := Fin.ext (by simp only; omega)
    have hy : (⟨0 + (⟨j.val - 1, by omega⟩ : Fin 30).val, by simp only; omega⟩ : Fin 31) = ⟨j.val - 1, by omega⟩ := Fin.ext (by simp only; omega)
    rw [e75, concatenate_pair_apply_right (s₁ := shape1 1) (s₂ := shape1 30) 0 _ _ hc (ix1 j) rfl rfl (ix1 ⟨j.val - 1, by omega⟩) (fun b hb' => by
      match b with
      | ⟨0, _⟩ => exact absurd rfl hb') (by show j.val - 1 + 1 = j.val; omega)]
    show (cmpi .ne _ _ (ix1 (⟨j.val - 1, by omega⟩ : Fin 30))).setWidth 32 = 1#32
    rw [cmpi_at, slice1 1 v28 hs1 _ (by simp only; omega), slice1 0 v28 hs0 _ (by simp only; omega), hx, hy]
    unfold IntOp.cmpi
    have : (v28 (ix1 j) != v28 (ix1 ⟨j.val - 1, by omega⟩)) = true := by
      rw [bne_iff_ne]; exact fun he => hne he.symm
    simp only [this]
    decide

end

/-- What the precondition says of the sizes. -/
theorem fill_of (g : IVec (shape1 8) 32) (hb : shape0.BroadcastsInDim (shape1 8) (![] : Fin 0 → Fin (shape1 8).rank))
    (h : (shape1 8).ReducesTo [0] shape0) (hu : 0 < shape0.numel)
    (H : andi (Host.reduce IntOp.andi (andi (cmpi .sge g (broadcastInDim (shape1 8) ![] hb (constantI shape0 32 0#32)))
        (cmpi .sle g (broadcastInDim (shape1 8) ![] hb (constantI shape0 32 12288#32)))) (constantI shape0 1 1#1) h hu)
      (cmpi .eq (Host.reduce IntOp.addi g (constantI shape0 32 0#32) h hu) (constantI shape0 32 12288#32)) = fun _ => 1#1) :
    cs (G g) 8 = 12288 := by
  have h0 := congrFun H ix0
  obtain ⟨ha, hs⟩ := and1 h0
  have hle : ∀ e : Fin 8, G g e.val ≤ 12288 := fun e => by
    obtain ⟨p1, p2⟩ := and1 (Host.reduce_andi_eq_one _ _ h hu ix0 ha (ix1 e) (funext fun a => a.elim0))
    rw [cmpi_at, bc0, constantI_at] at p1 p2
    unfold G
    rw [dif_pos e.isLt]
    revert p1 p2
    generalize g (ix1 e) = x
    unfold IntOp.cmpi
    intro p1 p2
    simp only [BitVec.sle_eq_decide] at p1 p2
    have q1 : (0#32).toInt ≤ x.toInt := by
      by_contra hc
      rw [decide_eq_false hc] at p1; exact absurd p1 (by decide)
    have q2 : x.toInt ≤ (12288#32).toInt := by
      by_contra hc
      rw [decide_eq_false hc] at p2; exact absurd p2 (by decide)
    rw [show (0#32).toInt = 0 from rfl] at q1
    rw [show (12288#32).toInt = 12288 from rfl] at q2
    rw [BitVec.toInt_eq_toNat_cond] at q1 q2
    split at q1 <;> omega
  rw [cmpi_at, constantI_at, reduce_sum g (G g) (fun i => by unfold G; rw [dif_pos i.isLt]; exact (ofNat_toNat32 _).symm)] at hs
  change IntOp.cmpi .eq (BitVec.ofNat 32 (cs (G g) 8)) (BitVec.ofNat 32 12288) = 1#1 at hs
  have hub : cs (G g) 8 ≤ 8 * 12288 := by
    simp only [cs_succ, cs_zero]
    have h0 : G g 0 ≤ 12288 := hle 0
    have h1 : G g 1 ≤ 12288 := hle 1
    have h2 : G g 2 ≤ 12288 := hle 2
    have h3 : G g 3 ≤ 12288 := hle 3
    have h4 : G g 4 ≤ 12288 := hle 4
    have h5 : G g 5 ≤ 12288 := hle 5
    have h6 : G g 6 ≤ 12288 := hle 6
    have h7 : G g 7 ≤ 12288 := hle 7
    omega
  have := (cmpi_eq_ofNat_eq_one_iff (w := 32) (by omega) (by omega)).1 hs
  exact this

end Cert.Tab
-- ==== Proof.KTab.lean ====
/-
  The equations of the vectors the host computes from the group sizes, read off the operations before the launch.
-/
module

public import proofs.«01_k».proof.Proof.KLaunch
public import proofs.«01_k».proof.Proof.Tab
public import Idealize.ShloMosaic.Lib.StableHlo.ReadAt
public import Idealize.ShloMosaic.Lib.Routing.OpsSearch

@[expose] public section

set_option maxRecDepth 16384
set_option maxHeartbeats 4000000

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ)

/-- `x[eid]`, the index wrapped if negative. -/
def taken (x : IVec S8 32) (eid : IVec S31 32) : IVec S31 32 :=
  Host.gather gather_S8_S31x1_S31_n_0_n_n_0_1_1 x (broadcastInDim S31x1 ![0] bcast_S31_S31x1_0
    (select (cmpi .slt eid (broadcastInDim S31 ![] bcast_S_S31 (constantI S_ 32 0#32)))
      (addi eid (broadcastInDim S31 ![] bcast_S_S31 (constantI S_ 32 8#32))) eid))

theorem take_taken (x : IVec S8 32) (eid y : IVec S31 32) (h : y = taken x eid) : Tab.Take x eid y :=
  ⟨_, _, _, rfl, rfl, rfl, rfl, h⟩

/-- What each stretch of host operations writes, in order. -/
def wr : List (List (Ref sig .tc)) :=
  [ [main_call0_call0_c, main_call0_call0_v0, main_v0],
    [main_v1, main_c],
    [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2],
    [main_c_0, main_v3, main_v4, main_c_1, main_v5, main_v6, main_c_2],
    [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7],
    [main_v8, main_c_3, main_v9, main_v10, main_c_4],
    [main_call3_v0, main_call3_v1, main_v11],
    [main_call4_call0_c, main_call4_call0_v0, main_v12],
    [main_v13, main_v14, main_v15, main_v16, main_v17, main_v18, main_v19, main_c_5, main_v20, main_c_6, main_v21, main_v22, main_c_7, main_v23, main_v24, main_v25, main_c_8],
    [main_call5_v0, main_call5_v1, main_v26],
    [main_c_9, main_v27],
    [main_call6_v0, main_v28],
    [main_c_10, main_v29, main_v30, main_c_11, main_v31, main_v32, main_v33, main_v34, main_v35, main_v36, main_c_12, main_v37, main_v38, main_c_13, main_v39, main_v40, main_v41, main_v42, main_v43, main_c_14, main_v44, main_v45, main_c_15, main_v46, main_v47, main_v48, main_v49, main_v50, main_v51, main_v52, main_c_16],
    [main_call7_v0, main_call7_v1, main_v53],
    [main_c_17, main_v54, main_v55, main_c_18, main_v56, main_v57, main_v58, main_v59, main_v60, main_c_19],
    [main_call8_v0, main_call8_v1, main_v61],
    [main_c_20, main_v62, main_v63, main_c_21, main_v64, main_v65, main_v66, main_v67, main_v68, main_c_22],
    [main_call9_v0, main_call9_v1, main_v69],
    [main_c_23, main_v70, main_v71, main_v72, main_v73, main_v74, main_v75, main_v76] ]

theorem hwr : (opss (F := F)).map (fun l => l.map HloOp.writes) = wr.map (fun l => l.map fun w => {Proc.devRef (τ := τ) .tc w}) := rfl

/-- The contents after the first `k` stretches. -/
def U (c : Dev nD) (k : Nat) : Valuation τ sig (Elt F) := StableHlo.after (opss.take k).flatten (fun b => m (c, b))

/-- A buffer that no later stretch writes ends as it stands after `k` stretches. -/
theorem V_at (c : Dev nD) (k : Nat) (r : Ref sig .tc) (hr : r ∉ (wr.drop k).flatten) : V m c r = U m c k (Proc.devRef .tc r) := by
  unfold V U
  have h : (opss (F := F)).flatten = (opss.take k).flatten ++ (opss.drop k).flatten := by
    rw [← List.flatten_append, List.take_append_drop]
  rw [h, StableHlo.after_append]
  refine StableHlo.after_unwritten (wr.drop k).flatten ?_ hr _
  have h2 := congrArg (fun l => (l.drop k).flatten) (hwr (F := F))
  simp only [← List.map_drop] at h2
  rw [List.map_flatten, List.map_flatten]
  exact h2

/-- The contents after `k` stretches, from those after `j`. -/
theorem U_win (c : Dev nD) (j k : Nat) (h : j ≤ k) : U m c k = StableHlo.after ((opss.take k).drop j).flatten (U m c j) := by
  unfold U
  rw [← StableHlo.after_append, ← List.flatten_append]
  congr 2
  rw [List.drop_take, ← List.take_add, Nat.add_sub_cancel' h]

theorem V_v0 (c : Dev nD) : (V m c main_v0 : IVec S8 32) = Host.reduceWindow IntOp.addi ![8] ![1] ![7] ![0] (V m c main_arg1 : IVec S8 32) (broadcastInDim S_ ![] bcast_S_S_ (constantI S_ 32 0#32)) reduceWindows_S8_S8_w8s1p7_0 h_S_ := by
  rw [V_at m c 1 main_v0 (by decide), V_at m c 1 main_arg1 (by decide),
    U_win m c 0 1 (by omega), show ((opss (F := F)).take 1).drop 0 = [hostOps0] from rfl]
  generalize U m c 0 = u
  after_reads_simp
  simp -implicitDefEqProofs only [StableHlo.TRef.toBuf, StableHlo.TRef.ofBuf, cast_cast, cast_eq]

theorem V_v1 (c : Dev nD) : (V m c main_v1 : IVec S8 32) = subi (V m c main_v0 : IVec S8 32) (V m c main_arg1 : IVec S8 32) := by
  rw [V_at m c 2 main_v1 (by decide), V_at m c 2 main_v0 (by decide), V_at m c 2 main_arg1 (by decide),
    U_win m c 1 2 (by omega), show ((opss (F := F)).take 2).drop 1 = [hostOps0_1] from rfl]
  generalize U m c 1 = u
  after_reads_simp

theorem V_v2 (c : Dev nD) : (V m c main_v2 : IVec S8 32) = Routing.pyDiv bcast_S_S8 (V m c main_v1 : IVec S8 32) (constantI S_ 32 512#32) := by
  rw [V_at m c 3 main_v2 (by decide), V_at m c 3 main_v1 (by decide),
    U_win m c 1 3 (by omega), show ((opss (F := F)).take 3).drop 1 = [hostOps0_1, hostOps0_2] from rfl]
  generalize U m c 1 = u
  after_reads_simp
  rfl

theorem V_v7 (c : Dev nD) : (V m c main_v7 : IVec S8 32) = Routing.pyDiv bcast_S_S8 (subi (V m c main_v0 : IVec S8 32) (broadcastInDim S8 ![] bcast_S_S8 (constantI S_ 32 1#32))) (constantI S_ 32 512#32) := by
  rw [V_at m c 5 main_v7 (by decide), V_at m c 5 main_v0 (by decide),
    U_win m c 3 5 (by omega), show ((opss (F := F)).take 5).drop 3 = [hostOps0_3, hostOps0_4] from rfl]
  generalize U m c 3 = u
  after_reads_simp
  rfl

theorem V_v11 (c : Dev nD) : (V m c main_v11 : IVec S8 32) = select (cmpi .sgt (V m c main_arg1 : IVec S8 32) (broadcastInDim S8 ![] bcast_S_S8 (constantI S_ 32 0#32))) (addi (subi (V m c main_v7 : IVec S8 32) (V m c main_v2 : IVec S8 32)) (broadcastInDim S8 ![] bcast_S_S8 (constantI S_ 32 1#32))) (broadcastInDim S8 ![] bcast_S_S8 (constantI S_ 32 0#32)) := by
  rw [V_at m c 7 main_v11 (by decide), V_at m c 7 main_arg1 (by decide), V_at m c 7 main_v7 (by decide), V_at m c 7 main_v2 (by decide),
    U_win m c 3 7 (by omega), show ((opss (F := F)).take 7).drop 3 = [hostOps0_3, hostOps0_4, hostOps0_5, hostOps0_6] from rfl]
  generalize U m c 3 = u
  after_reads_simp
  rfl

theorem V_v12 (c : Dev nD) : (V m c main_v12 : IVec S8 32) = Host.reduceWindow IntOp.addi ![8] ![1] ![7] ![0] (V m c main_v11 : IVec S8 32) (broadcastInDim S_ ![] bcast_S_S_ (constantI S_ 32 0#32)) reduceWindows_S8_S8_w8s1p7_0 h_S_ := by
  rw [V_at m c 8 main_v12 (by decide), V_at m c 8 main_v11 (by decide),
    U_win m c 7 8 (by omega), show ((opss (F := F)).take 8).drop 7 = [hostOps0_7] from rfl]
  generalize U m c 7 = u
  after_reads_simp
  simp -implicitDefEqProofs only [StableHlo.TRef.toBuf, StableHlo.TRef.ofBuf, cast_cast, cast_eq]

theorem V_v20 (c : Dev nD) : (V m c main_v20 : IVec S31 32) = Host.reduce IntOp.addi (extui 32 (cmpi .sge (broadcastInDim S31x8 ![0, 1] bcast_S31x1_S31x8_0_1 (broadcastInDim S31x1 ![0] bcast_S31_S31x1_0 (iotaInDim S31 32 0))) (broadcastInDim S31x8 ![0, 1] bcast_S1x8_S31x8_0_1 (broadcastInDim S1x8 ![1] bcast_S8_S1x8_1 (V m c main_v12 : IVec S8 32)))) natLt_1_32) (constantI S_ 32 0#32) reducesTo_S31x8_S31_d1 h_S_ := by
  rw [V_at m c 9 main_v20 (by decide), V_at m c 9 main_v12 (by decide),
    U_win m c 8 9 (by omega), show ((opss (F := F)).take 9).drop 8 = [hostOps0_8] from rfl]
  generalize U m c 8 = u
  after_reads_simp

theorem V_v22 (c : Dev nD) : (V m c main_v22 : IVec S31 1) = cmpi .slt (V m c main_v20 : IVec S31 32) (broadcastInDim S31 ![] bcast_S_S31 (constantI S_ 32 8#32)) := by
  rw [V_at m c 9 main_v22 (by decide), V_at m c 9 main_v20 (by decide),
    U_win m c 8 9 (by omega), show ((opss (F := F)).take 9).drop 8 = [hostOps0_8] from rfl]
  generalize U m c 8 = u
  after_reads_simp

theorem V_v27 (c : Dev nD) : (V m c main_v27 : IVec S_ 32) = Host.reduce IntOp.maxsi (select (cmpi .sgt (V m c main_arg1 : IVec S8 32) (broadcastInDim S8 ![] bcast_S_S8 (constantI S_ 32 0#32))) (iotaInDim S8 32 0) (broadcastInDim S8 ![] bcast_S_S8 (constantI S_ 32 0#32))) (constantI S_ 32 2147483648#32) reducesTo_S8_S_d0 h_S_ := by
  rw [V_at m c 11 main_v27 (by decide), V_at m c 11 main_arg1 (by decide),
    U_win m c 8 11 (by omega), show ((opss (F := F)).take 11).drop 8 = [hostOps0_8, hostOps0_9, hostOps0_10] from rfl]
  generalize U m c 8 = u
  after_reads_simp
  rfl

theorem V_v28 (c : Dev nD) : (V m c main_v28 : IVec S31 32) = select (V m c main_v22 : IVec S31 1) (V m c main_v20 : IVec S31 32) (broadcastInDim S31 ![] bcast_S_S31 (V m c main_v27 : IVec S_ 32)) := by
  rw [V_at m c 12 main_v28 (by decide), V_at m c 12 main_v22 (by decide), V_at m c 12 main_v20 (by decide), V_at m c 12 main_v27 (by decide),
    U_win m c 11 12 (by omega), show ((opss (F := F)).take 12).drop 11 = [hostOps0_11] from rfl]
  generalize U m c 11 = u
  after_reads_simp
  rfl

theorem V_v35 (c : Dev nD) : (V m c main_v35 : IVec S31 32) = taken (V m c main_v2 : IVec S8 32) (V m c main_v28 : IVec S31 32) := by
  rw [V_at m c 13 main_v35 (by decide), V_at m c 13 main_v2 (by decide), V_at m c 13 main_v28 (by decide),
    U_win m c 12 13 (by omega), show ((opss (F := F)).take 13).drop 12 = [hostOps0_12] from rfl]
  generalize U m c 12 = u
  after_reads_simp
  rfl

theorem V_v43 (c : Dev nD) : (V m c main_v43 : IVec S31 32) = taken (V m c main_v12 : IVec S8 32) (V m c main_v28 : IVec S31 32) := by
  rw [V_at m c 13 main_v43 (by decide), V_at m c 13 main_v12 (by decide), V_at m c 13 main_v28 (by decide),
    U_win m c 12 13 (by omega), show ((opss (F := F)).take 13).drop 12 = [hostOps0_12] from rfl]
  generalize U m c 12 = u
  after_reads_simp
  rfl

theorem V_v50 (c : Dev nD) : (V m c main_v50 : IVec S31 32) = taken (V m c main_v11 : IVec S8 32) (V m c main_v28 : IVec S31 32) := by
  rw [V_at m c 13 main_v50 (by decide), V_at m c 13 main_v11 (by decide), V_at m c 13 main_v28 (by decide),
    U_win m c 12 13 (by omega), show ((opss (F := F)).take 13).drop 12 = [hostOps0_12] from rfl]
  generalize U m c 12 = u
  after_reads_simp
  rfl

theorem V_v60 (c : Dev nD) : (V m c main_v60 : IVec S31 32) = taken (V m c main_v1 : IVec S8 32) (V m c main_v28 : IVec S31 32) := by
  rw [V_at m c 15 main_v60 (by decide), V_at m c 15 main_v1 (by decide), V_at m c 15 main_v28 (by decide),
    U_win m c 14 15 (by omega), show ((opss (F := F)).take 15).drop 14 = [hostOps0_14] from rfl]
  generalize U m c 14 = u
  after_reads_simp
  rfl

theorem V_v68 (c : Dev nD) : (V m c main_v68 : IVec S31 32) = taken (V m c main_v0 : IVec S8 32) (V m c main_v28 : IVec S31 32) := by
  rw [V_at m c 17 main_v68 (by decide), V_at m c 17 main_v0 (by decide), V_at m c 17 main_v28 (by decide),
    U_win m c 16 17 (by omega), show ((opss (F := F)).take 17).drop 16 = [hostOps0_16] from rfl]
  generalize U m c 16 = u
  after_reads_simp
  rfl

theorem V_v13 (c : Dev nD) : (V m c main_v13 : IVec S31 32) = iotaInDim S31 32 0 := by
  rw [V_at m c 9 main_v13 (by decide),
    U_win m c 8 9 (by omega), show ((opss (F := F)).take 9).drop 8 = [hostOps0_8] from rfl]
  generalize U m c 8 = u
  after_reads_simp

theorem V_v53 (c : Dev nD) : (V m c main_v53 : IVec S31 32) = select (V m c main_v22 : IVec S31 1) (subi (addi (V m c main_v35 : IVec S31 32) (V m c main_v13 : IVec S31 32)) (subi (V m c main_v43 : IVec S31 32) (V m c main_v50 : IVec S31 32))) (broadcastInDim S31 ![] bcast_S_S31 (constantI S_ 32 23#32)) := by
  rw [V_at m c 14 main_v53 (by decide), V_at m c 14 main_v22 (by decide), V_at m c 14 main_v35 (by decide), V_at m c 14 main_v13 (by decide), V_at m c 14 main_v43 (by decide), V_at m c 14 main_v50 (by decide),
    U_win m c 12 14 (by omega), show ((opss (F := F)).take 14).drop 12 = [hostOps0_12, hostOps0_13] from rfl]
  generalize U m c 12 = u
  after_reads_simp
  rfl

theorem V_v61 (c : Dev nD) : (V m c main_v61 : IVec S31 32) = select (V m c main_v22 : IVec S31 1) (V m c main_v60 : IVec S31 32) (broadcastInDim S31 ![] bcast_S_S31 (constantI S_ 32 0#32)) := by
  rw [V_at m c 16 main_v61 (by decide), V_at m c 16 main_v22 (by decide), V_at m c 16 main_v60 (by decide),
    U_win m c 14 16 (by omega), show ((opss (F := F)).take 16).drop 14 = [hostOps0_14, hostOps0_15] from rfl]
  generalize U m c 14 = u
  after_reads_simp
  rfl

theorem V_v69 (c : Dev nD) : (V m c main_v69 : IVec S31 32) = select (V m c main_v22 : IVec S31 1) (V m c main_v68 : IVec S31 32) (broadcastInDim S31 ![] bcast_S_S31 (constantI S_ 32 0#32)) := by
  rw [V_at m c 18 main_v69 (by decide), V_at m c 18 main_v22 (by decide), V_at m c 18 main_v68 (by decide),
    U_win m c 16 18 (by omega), show ((opss (F := F)).take 18).drop 16 = [hostOps0_16, hostOps0_17] from rfl]
  generalize U m c 16 = u
  after_reads_simp
  rfl

theorem V_v75 (c : Dev nD) : (V m c main_v75 : IVec S31 32) = concatenate S31 0 [⟨S1, broadcastInDim S1 ![] bcast_S_S1 (constantI S_ 32 1#32)⟩, ⟨S30, extui 32 (cmpi .ne (extractStridedSlice S30 ![1] (V m c main_v28 : IVec S31 32) slices_S31_S30_1) (extractStridedSlice S30 ![0] (V m c main_v28 : IVec S31 32) slices_S31_S30_0)) natLt_1_32⟩] concatenates_S1_S30_S31_d0 := by
  rw [V_at m c 19 main_v75 (by decide), V_at m c 19 main_v28 (by decide),
    U_win m c 18 19 (by omega), show ((opss (F := F)).take 19).drop 18 = [hostOps0_18] from rfl]
  generalize U m c 18 = u
  after_reads_simp
  rfl

/-- The scales, flat. -/
theorem V_v76 (c : Dev nD) : (V m c main_v76 : FVec F S20480 .f32) = shapeCast S20480 (V m c main_arg3 : FVec F S8x40x64 .f32) shapeCasts_S8x40x64_S20480 := by
  rw [V_at m c 19 main_v76 (by decide), V_at m c 19 main_arg3 (by decide),
    U_win m c 18 19 (by omega), show ((opss (F := F)).take 19).drop 18 = [hostOps0_18] from rfl]
  generalize U m c 18 = u
  after_reads_simp
  rfl

end Cert.Kernel.Hand
-- ==== Proof.KEqs.lean ====
/-
  The vectors' equations together.
-/
module

public import proofs.«01_k».proof.Proof.KTab
public import proofs.«01_k».proof.Proof.Tab
public import Idealize.ShloMosaic.Lib.StableHlo.ReadAt
public import Idealize.ShloMosaic.Lib.Routing.OpsSearch

@[expose] public section

set_option maxRecDepth 16384
set_option maxHeartbeats 4000000

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ)

attribute [local irreducible] Host.reduceWindow Host.reduce Host.gather broadcastInDim concatenate extractStridedSlice iotaInDim constantI cmpi select addi subi extui Routing.pyDiv

/-- The vectors' equations together. -/
theorem eqs (c : Dev nD) : Tab.Eqs (V m c main_arg1) (V m c main_v0) (V m c main_v1) (V m c main_v2) (V m c main_v7) (V m c main_v11)
    (V m c main_v12) (V m c main_v27) (V m c main_v22) (V m c main_v20) (V m c main_v28) (V m c main_v35) (V m c main_v43) (V m c main_v50)
    (V m c main_v53) (V m c main_v60) (V m c main_v61) (V m c main_v68) (V m c main_v69) (V m c main_v75) where
  e0 := ⟨reduceWindows_S8_S8_w8s1p7_0, h_S_, bcast_S_S_, V_v0 m c⟩
  e1 := V_v1 m c
  e2 := ⟨bcast_S_S8, V_v2 m c⟩
  e7 := ⟨bcast_S_S8, V_v7 m c⟩
  e11 := ⟨bcast_S_S8, V_v11 m c⟩
  e12 := ⟨reduceWindows_S8_S8_w8s1p7_0, h_S_, bcast_S_S_, V_v12 m c⟩
  e20 := ⟨bcast_S31_S31x1_0, bcast_S31x1_S31x8_0_1, bcast_S8_S1x8_1, bcast_S1x8_S31x8_0_1, natLt_1_32, reducesTo_S31x8_S31_d1, h_S_, V_v20 m c⟩
  e22 := ⟨bcast_S_S31, V_v22 m c⟩
  e27 := ⟨bcast_S_S8, reducesTo_S8_S_d0, h_S_, V_v27 m c⟩
  e28 := ⟨bcast_S_S31, V_v28 m c⟩
  e35 := take_taken _ _ _ (V_v35 m c)
  e43 := take_taken _ _ _ (V_v43 m c)
  e50 := take_taken _ _ _ (V_v50 m c)
  e60 := take_taken _ _ _ (V_v60 m c)
  e68 := take_taken _ _ _ (V_v68 m c)
  e53 := ⟨bcast_S_S31, (V_v53 m c).trans (by rw [V_v13])⟩
  e61 := ⟨bcast_S_S31, V_v61 m c⟩
  e69 := ⟨bcast_S_S31, V_v69 m c⟩
  e75 := ⟨bcast_S_S1, slices_S31_S30_1, slices_S31_S30_0, natLt_1_32, concatenates_S1_S30_S31_d0, V_v75 m c⟩

end Cert.Kernel.Hand
-- ==== Proof.KFrame.lean ====
/-
  The words of the tables at an item, the side conditions they meet, and the frame.
-/
module

public import proofs.«01_k».proof.Proof.KEqs
public import Idealize.ShloMosaic.Lib.Affine

@[expose] public section

set_option maxRecDepth 16384
set_option maxHeartbeats 4000000

noncomputable section

namespace Cert.Kernel.Hand

open Cert.Kernel Cert.Kernel.Gen Cert.Sched
open Idealize.ShloMosaic Idealize.ShloMosaic.TcCoe
open Idealize.SL Idealize.SL.Sem
open Idealize.ShloMosaic.Pipeline (RDat)

variable {F : FTy → Type} [FloatOps F]
variable (m : (ℓ : Loc nD τ sig) → Buf (Elt F) ℓ)

attribute [local irreducible] V

/-- The activations' block index, from the table's words. -/
theorem tr1_eq (T : pre0.Contents (Elt F)) (i : grid0.Coords) : cc0_transform_1 k0_off1_inb numel1_S1 T i = ![(tw T 0 i).toNat, 0] :=
  congrArg (fun x => ![(T 0 x).toNat, 0]) (off1_idx i)
/-- The weights' block index, from the table's words. -/
theorem tr2_eq (T : pre0.Contents (Elt F)) (i : grid0.Coords) : cc0_transform_2 k0_off1_inb numel1_S1 T i = ![(tw T 1 i).toNat, 0, (i 0).val] := by
  have h0 : (BitVec.ofNat 32 (i 0).val).toNat = (i 0).val := by
    have : (i 0).val < 8 := (i 0).isLt
    rw [BitVec.toNat_ofNat]; omega
  exact (congrArg (fun x => ![(T 1 x).toNat, 0, (BitVec.ofNat 32 (i 0).val).toNat]) (off1_idx i)).trans (by rw [h0]; rfl)
/-- The output's block index, from the table's words. -/
theorem tr3_eq (T : pre0.Contents (Elt F)) (i : grid0.Coords) : cc0_transform_3 k0_off1_inb numel1_S1 T i = ![(tw T 0 i).toNat, (i 0).val] := by
  have h0 : (BitVec.ofNat 32 (i 0).val).toNat = (i 0).val := by
    have : (i 0).val < 8 := (i 0).isLt
    rw [BitVec.toNat_ofNat]; omega
  exact (congrArg (fun x => ![(T 0 x).toNat, (BitVec.ofNat 32 (i 0).val).toNat]) (off1_idx i)).trans (by rw [h0]; rfl)

/-- The group sizes. -/
def gs : Nat → Nat := Tab.G (V m 0 main_arg1 : IVec S8 32)

section Fill
variable (hg : cs (gs m) 8 = 12288)
include hg

/-- The table's word for an item's tile. -/
theorem tw_tile (i : grid0.Coords) : tw (T m) 0 i = BitVec.ofNat 32 (tile (gs m) (i 1).val) := Tab.w53 (eqs m 0) hg (i 1)
/-- The table's word for the expert of an item in use. -/
theorem tw_eid (i : grid0.Coords) (h : cnt (gs m) (i 1).val < 8) : tw (T m) 1 i = BitVec.ofNat 32 (cnt (gs m) (i 1).val) :=
  (Tab.w28 (eqs m 0) hg (i 1)).trans (if_pos h)
/-- The table's expert is one of the eight. -/
theorem tw_eid_lt (i : grid0.Coords) : (tw (T m) 1 i).toNat < 8 := Tab.w28_lt (eqs m 0) hg (i 1)
/-- The table's word for the first row of an item's group. -/
theorem tw_lo (i : grid0.Coords) : tw (T m) 2 i = BitVec.ofNat 32 (if cnt (gs m) (i 1).val < 8 then cs (gs m) (cnt (gs m) (i 1).val) else 0) :=
  Tab.w61 (eqs m 0) hg (i 1)
/-- The table's word for the row after an item's group. -/
theorem tw_hi (i : grid0.Coords) : tw (T m) 3 i = BitVec.ofNat 32 (if cnt (gs m) (i 1).val < 8 then cs (gs m) (cnt (gs m) (i 1).val + 1) else 0) :=
  Tab.w69 (eqs m 0) hg (i 1)
/-- An item not marked fresh has the expert of the item before it. -/
theorem tw_fresh (i : grid0.Coords) (h : tw (T m) 4 i ≠ 1#32) : ∃ j : Fin 31, j.val + 1 = (i 1).val ∧ T m 1 (ValueIdx.ix1 j) = tw (T m) 1 i :=
  Tab.w75 (eqs m 0) hg (i 1) h

/-- An item's tile as a number. -/
theorem tw_tile_nat (i : grid0.Coords) : (tw (T m) 0 i).toNat = tile (gs m) (i 1).val := by
  have := tile_lt (gs m) hg (i 1).val
  rw [tw_tile m hg, BitVec.toNat_ofNat]; omega

end Fill

/-- The block indices are in range. -/
theorem ok_of (hg : cs (gs m) 8 = 12288) : ok0 (T m) := by
  have h0 : ∀ i : grid0.Coords, (i 0).val < 8 := fun i => (i 0).isLt
  refine ⟨fun i => ⟨?_, .inr ?_⟩, fun i => ⟨?_, .inr ?_⟩, fun i => ⟨?_, .inr ?_⟩⟩
  · rw [tr1_eq (T m), tw_tile_nat m hg]
    have := tile_lt (gs m) hg (i 1).val
    intro a
    match a with
    | ⟨0, _⟩ => exact (show (tile (gs m) (i 1).val + 1) * 512 ≤ 12288 by omega)
    | ⟨1, _⟩ => exact (show (0 + 1) * 5120 ≤ 5120 by omega)
  · exact Affine.block_words_dvd (by decide) (by decide)
  · rw [tr2_eq (T m)]
    have := tw_eid_lt m hg i
    have := h0 i
    intro a
    match a with
    | ⟨0, _⟩ => exact (show ((tw (T m) 1 i).toNat + 1) * 1 ≤ 8 by omega)
    | ⟨1, _⟩ => exact (show (0 + 1) * 5120 ≤ 5120 by omega)
    | ⟨2, _⟩ => exact (show ((i 0).val + 1) * 1024 ≤ 8192 by omega)
  · exact Affine.block_words_dvd (by decide) (by decide)
  · rw [tr3_eq (T m), tw_tile_nat m hg]
    have := tile_lt (gs m) hg (i 1).val
    have := h0 i
    intro a
    match a with
    | ⟨0, _⟩ => exact (show (tile (gs m) (i 1).val + 1) * 512 ≤ 12288 by omega)
    | ⟨1, _⟩ => exact (show ((i 0).val + 1) * 1024 ≤ 8192 by omega)
  · exact Affine.block_words_dvd (by decide) (by decide)

/-- The reads of the scales are in range. -/
theorem chk_of (hg : cs (gs m) 8 = 12288) : Chk (T m) := by
  intro i k _ r a
  have he := tw_eid_lt m hg i
  have h0 : (i 0).val < 8 := (i 0).isLt
  have hk : k.val < 40 := k.isLt
  have hr := r.isLt
  obtain rfl : a = 0 := Subsingleton.elim _ _
  rw [off2_val i _ he k r]
  exact (show ((tw (T m) 1 i).toNat * 40 + k.val) * 64 + (i 0).val * 8 + r.val + 1 ≤ 20480 by omega)

/-- Every run ends with the arguments as they were and the semaphores at zero. -/
theorem fr (ρ : Dev nD → PrngReg) (hg : cs (gs m) 8 = 12288) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run (defs (F := F)) _ _).mono (fun r h => ⟨args_of m (ok_of m hg) _ _ r h.1, h.2⟩)
    (run m ρ (ok_of m hg) (chk_of m hg) (fun _ _ => True) (fun _ => trivial) (fun _ _ => True) (fun _ _ _ _ _ _ _ _ _ => ⟨trivial, trivial⟩))

end Cert.Kernel.Hand
-- ==== Proof.KIBody.lean ====
/-
  The kernel body. Its counted loop: one trip writes the eight 128x128 blocks of one row of weight blocks, each the
  dequantised weights there, so that after the forty trips the scratch holds the dequantised weights of one expert's
  column tile.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.ValueIdx
public import Idealize.ShloMosaic.Lib.ValueLayout
public import Idealize.ShloMosaic.Lib.Pointwise
public import Idealize.ShloMosaic.Lib.VecWindow

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The place of the scale of expert `e`, column tile `n`, at row `r` and column `c` of the tile. -/
def sAt (n e r c : Nat) : S20480.Idx := ValueIdx.ix1 ⟨((e * 40 + r / 128) * 64 + n * 8 + c / 128) % 20480, Nat.mod_lt _ (by decide)⟩

/-- The dequantised weights of expert `e`, column tile `n`: each weight, as bf16, times its block's scale, as bf16. -/
def dq (n e : Nat) (S : S20480.Idx → Elt F .f32) (W : S1x5120x1024.Idx → Elt F .fp8e4m3) : FVec F S5120x1024 .bf16 :=
  mulf (extf .bf16 (show FVec F S5120x1024 .fp8e4m3 from fun y => W (ValueIdx.ix3 0 (y 0) (y 1))) bitsLt_fp8e4m3_bf16)
    (truncf .bf16 (show FVec F S5120x1024 .f32 from fun y => S (sAt n e (y 0).val (y 1).val)) bitsLt_bf16_f32)

/-- The class of the loop's invariants. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole) (arg0 : BitVec 32) (v1 : Elt F .i32) (v3 : Elt F .i32) (v5 : Elt F .i32) (v8 : Elt F .i32) (k0_hw1 : k0_chk1 i v1 v3 v5 v8) (k0_h1 : k0_cond1 v1 v3 v8 = 1#1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg0 v1 v3 v5 v8 k0_hw1 k0_h1)

/-- One trip's resources: what it reads at its contents, what it writes at any. -/
abbrev Trip_k0_t1 (c : Dev nD) (arg7 : Memref sig .tc .smem S20480 .f32) (arg9 : Memref sig .tc .vmem S1x5120x1024 .fp8e4m3) (arg11 : Memref sig .tc .vmem S5120x1024 .bf16) (X_arg7 : BufTy.Contents (Elt F) arg7.view.ty) (X_arg9 : BufTy.Contents (Elt F) arg9.view.ty) (f_arg11 : BufTy.Contents (Elt F) arg11.view.ty) : sProp 𝕄G :=
  iprop((arg7.view.loc (c : Thread nD τ) ↦[arg7.view.set]{fullShare} X_arg7) ∗ (arg9.view.loc (c : Thread nD τ) ↦[arg9.view.set]{fullShare} X_arg9) ∗ (arg11.view.loc (c : Thread nD τ) ↦[arg11.view.set]{fullShare} f_arg11))

/-- One trip, with the pieces that it writes. -/
def tripD (𝒱 : Variants) (c : Dev nD) (bd : Option 𝒱.V) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole) (arg0 : BitVec 32) (v1 : Elt F .i32) (v3 : Elt F .i32) (v5 : Elt F .i32) (v8 : Elt F .i32) (k0_hw1 : k0_chk1 i v1 v3 v5 v8) (k0_h1 : k0_cond1 v1 v3 v8 = 1#1) (X_arg7 : BufTy.Contents (Elt F) arg7.view.ty) (X_arg9 : BufTy.Contents (Elt F) arg9.view.ty) (k : Fin k0_t1_loop.trips) :
    { L_arg11 : List (View.Piece (Elt F) S5120x1024 .bf16) // ∀ (E : Set ℕ) (f_arg11 : BufTy.Contents (Elt F) arg11.view.ty),
      Trip_k0_t1 (F := F) c arg7 arg9 arg11 X_arg7 X_arg9 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg0 v1 v3 v5 v8 k0_hw1 k0_h1 k PUnit.unit)
          (fun _ => Trip_k0_t1 (F := F) c arg7 arg9 arg11 X_arg7 X_arg9 (arg11.view.writes (Elt F) f_arg11 L_arg11)) } := by
  have hk : k.val < 40 := Nat.lt_of_lt_of_le k.isLt k0_t1_abs.2.1
  refine ⟨?_, fun E f_arg11 => ?run⟩
  case run =>
    unfold k0_t1_body
    iintro ⟨HR_arg7, HR_arg9, HW_arg11⟩
    sl_exec
    sl_step
    sl_close

/-- The scale's offset in numbers. -/
theorem off2_val (i : grid0.Coords) (v5 : BitVec 32) (he : v5.toNat < 8) (k : Fin k0_t1_loop.trips) (j : Fin 8) :
    k0_off2 i v5 k (BitVec.ofNat 32 j.val) 0 = (v5.toNat * 40 + k.val) * 64 + (i 0).val * 8 + j.val := by
  have hk : k.val < 40 := Nat.lt_of_lt_of_le k.isLt k0_t1_abs.2.1
  have hi : (i 0).val < 8 := (i 0).isLt
  have hj := j.isLt
  simp only [k0_off2, Matrix.cons_val_zero, Scf.iv, Scalar.indexCast, Scalar.addi, Scalar.muli, IntOp.addi, IntOp.muli, BitVec.toNat_add, BitVec.toNat_mul,
    BitVec.toNat_ofNat]
  omega

/-- A block's payload is the dequantised weights at the block. -/
theorem pay_dq (arg9 : Memref sig .tc .vmem S1x5120x1024 .fp8e4m3) (X9 : BufTy.Contents (Elt F) arg9.view.ty)
    (S : S20480.Idx → Elt F .f32) (n e k j : Nat) (hk : k < 40) (hj : j < 8)
    {o3 : Fin 3 → Nat} (inb3 : ∀ a, o3 a + S1x128x128.size a ≤ S1x5120x1024.size a) (h3 : o3 = ![0, 128 * k, 128 * j])
    {o4 : Fin 2 → Nat} (inb4 : ∀ a, o4 a + S128x128.size a ≤ S5120x1024.size a) (h4 : o4 = ![128 * k, 128 * j])
    (s : Elt F .f32) (hs : s = S (sAt n e (128 * k) (128 * j))) (x : S128x128.Idx) :
    k0_pay3 s (View.readAt (Elt F) arg9.view (Rect.unit (s := S1x5120x1024) o3 S1x128x128.size inb3).toLoadRect X9) x
      = dq n e S (arg9.view.read (Elt F) X9) ((Rect.unit (s := S5120x1024) o4 S128x128.size inb4).emb x) := by
  subst h3 h4 hs
  unfold k0_pay3 dq
  rw [shapeCast_id]
  simp only [mulf_apply, extf_apply, truncf_apply]
  obtain ⟨a, b, rfl⟩ : ∃ a b, x = ValueIdx.ix2 a b := ⟨x 0, x 1, ValueIdx.eq_ix2 x⟩
  have e0 : ((Rect.unit (s := S5120x1024) ![128 * k, 128 * j] S128x128.size inb4).emb (ValueIdx.ix2 a b) 0).val = 128 * k + a.val := by
    rw [Rect.emb_apply]; show 128 * _ + 1 * _ = _; rw [Nat.one_mul]
  have e1 : ((Rect.unit (s := S5120x1024) ![128 * k, 128 * j] S128x128.size inb4).emb (ValueIdx.ix2 a b) 1).val = 128 * j + b.val := by
    rw [Rect.emb_apply]; show 128 * _ + 1 * _ = _; rw [Nat.one_mul]
  have ha := a.isLt
  have hb := b.isLt
  refine congrArg₂ FloatOps.mulf (congrArg _ ?_) (congrArg _ ?_)
  · rw [ValueIdx.shapeCast_1ab_ab_apply]
    show arg9.view.read (Elt F) X9 _ = arg9.view.read (Elt F) X9 _
    congr 1
    funext d
    apply Fin.ext
    match d with
    | ⟨0, _⟩ => rfl
    | ⟨1, _⟩ => show 128 * k + 1 * a.val = _; rw [Nat.one_mul]; exact e0.symm
    | ⟨2, _⟩ => show 128 * j + 1 * b.val = _; rw [Nat.one_mul]; exact e1.symm
  · show S (sAt n e (128 * k) (128 * j)) = S (sAt n e _ _)
    rw [e0, e1]
    unfold sAt
    congr 2
    apply Fin.ext
    have h1 : (128 * k + a.val) / 128 = 128 * k / 128 := by omega
    have h2 : (128 * j + b.val) / 128 = 128 * j / 128 := by omega
    show _ % 20480 = _ % 20480
    rw [h1, h2]

/-- One trip's pieces are the dequantised weights at their places, and cover the trip's rows. -/
theorem tripD_spec (𝒱 : Variants) (c : Dev nD) (bd : Option 𝒱.V) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole) (arg0 : BitVec 32) (v1 : Elt F .i32) (v3 : Elt F .i32) (v5 : Elt F .i32) (v8 : Elt F .i32) (k0_hw1 : k0_chk1 i v1 v3 v5 v8) (k0_h1 : k0_cond1 v1 v3 v8 = 1#1) (he : v5.toNat < 8)
    (X_arg7 : BufTy.Contents (Elt F) arg7.view.ty) (X_arg9 : BufTy.Contents (Elt F) arg9.view.ty) (k : Fin k0_t1_loop.trips) :
    (∀ p ∈ (tripD (F := F) 𝒱 c bd i arg2 harg2 arg3 harg3 arg4 harg4 arg5 harg5 arg6 harg6 arg7 harg7 arg8 harg8 arg9 harg9 arg10 harg10 arg11 harg11 arg0 v1 v3 v5 v8 k0_hw1 k0_h1 X_arg7 X_arg9 k).1, ∀ x : p.1.shape.Idx, p.2 x = dq (i 0).val v5.toNat (arg7.view.read (Elt F) X_arg7) (arg9.view.read (Elt F) X_arg9) (p.1.emb x))
    ∧ (∀ y : S5120x1024.Idx, 128 * k.val ≤ (y 0).val → (y 0).val < 128 * k.val + 128 →
        ∃ p ∈ (tripD (F := F) 𝒱 c bd i arg2 harg2 arg3 harg3 arg4 harg4 arg5 harg5 arg6 harg6 arg7 harg7 arg8 harg8 arg9 harg9 arg10 harg10 arg11 harg11 arg0 v1 v3 v5 v8 k0_hw1 k0_h1 X_arg7 X_arg9 k).1, y ∈ p.1.set)
    ∧ (∀ y : S5120x1024.Idx, (y 0).val < 128 * k.val →
        ∀ p ∈ (tripD (F := F) 𝒱 c bd i arg2 harg2 arg3 harg3 arg4 harg4 arg5 harg5 arg6 harg6 arg7 harg7 arg8 harg8 arg9 harg9 arg10 harg10 arg11 harg11 arg0 v1 v3 v5 v8 k0_hw1 k0_h1 X_arg7 X_arg9 k).1, y ∉ p.1.set) := by
  have hk : k.val < 40 := Nat.lt_of_lt_of_le k.isLt k0_t1_abs.2.1
  have hw : ∀ (j : Fin 8) (q : BitVec 32) (hq : q = BitVec.ofNat 32 j.val) (inb), View.readAt (Elt F) arg7.view (Rect.unit (s := S20480) (k0_off2 i v5 k q) S1.size inb).toLoadRect X_arg7 (Shape.Idx.first (Nat.lt_of_lt_of_eq Nat.zero_lt_one numel1_S1.symm))
      = arg7.view.read (Elt F) X_arg7 (sAt (i 0).val v5.toNat (128 * k.val) (128 * j.val)) := by
    intro j q hq inb
    subst hq
    rw [View.readAt_apply]
    congr 1
    funext d
    apply Fin.ext
    match d with
    | ⟨0, _⟩ =>
      show k0_off2 i v5 k (BitVec.ofNat 32 j.val) 0 + 1 * _ = _ % 20480
      have h0 := off2_val i v5 he k j
      have hi : (i 0).val < 8 := (i 0).isLt
      have hj := j.isLt
      have hz : (Shape.Idx.first (Nat.lt_of_lt_of_eq Nat.zero_lt_one numel1_S1.symm) : S1.Idx) (⟨0, by decide⟩ : Fin S1.rank) < (1 : Nat) := Fin.isLt _
      rw [h0]
      omega
  unfold tripD
  refine ⟨?_, ?_, ?_⟩
  · intro p hp x
    simp only [List.mem_cons, List.not_mem_nil, _root_.or_false] at hp
    rcases hp with rfl | rfl | rfl | rfl | rfl | rfl | rfl | rfl
    · exact pay_dq arg9 X_arg9 _ _ _ k.val 7 hk (by decide) (k0_off17_inb k) (k0_off17_eq k) (k0_off18_inb k) (k0_off18_eq k) _ (hw 7 _ rfl _) x
    · exact pay_dq arg9 X_arg9 _ _ _ k.val 6 hk (by decide) (k0_off15_inb k) (k0_off15_eq k) (k0_off16_inb k) (k0_off16_eq k) _ (hw 6 _ rfl _) x
    · exact pay_dq arg9 X_arg9 _ _ _ k.val 5 hk (by decide) (k0_off13_inb k) (k0_off13_eq k) (k0_off14_inb k) (k0_off14_eq k) _ (hw 5 _ rfl _) x
    · exact pay_dq arg9 X_arg9 _ _ _ k.val 4 hk (by decide) (k0_off11_inb k) (k0_off11_eq k) (k0_off12_inb k) (k0_off12_eq k) _ (hw 4 _ rfl _) x
    · exact pay_dq arg9 X_arg9 _ _ _ k.val 3 hk (by decide) (k0_off9_inb k) (k0_off9_eq k) (k0_off10_inb k) (k0_off10_eq k) _ (hw 3 _ rfl _) x
    · exact pay_dq arg9 X_arg9 _ _ _ k.val 2 hk (by decide) (k0_off7_inb k) (k0_off7_eq k) (k0_off8_inb k) (k0_off8_eq k) _ (hw 2 _ rfl _) x
    · exact pay_dq arg9 X_arg9 _ _ _ k.val 1 hk (by decide) (k0_off5_inb k) (k0_off5_eq k) (k0_off6_inb k) (k0_off6_eq k) _ (hw 1 _ rfl _) x
    · exact pay_dq arg9 X_arg9 _ _ _ k.val 0 hk (by decide) (k0_off3_inb k) (k0_off3_eq k) (k0_off4_inb k) (k0_off4_eq k) _ (hw 0 _ rfl _) x
  · intro y h0 h1
    have hy : (y 1).val < 1024 := (y 1).isLt
    simp only [List.mem_cons, List.not_mem_nil, _root_.or_false, exists_eq_or_imp, exists_eq_left, Rect.mem_set_unit]
    have hm : ∀ (o : Fin 2 → Nat) (j : Nat), o = ![128 * k.val, 128 * j] → 128 * j ≤ (y 1).val → (y 1).val < 128 * j + 128 →
        ∀ a : Fin 2, o a ≤ (y a).val ∧ (y a).val < o a + (![128, 128] : Fin 2 → Nat) a := by
      rintro o j rfl h2 h3 a
      match a with
      | ⟨0, _⟩ => exact ⟨h0, h1⟩
      | ⟨1, _⟩ => exact ⟨h2, h3⟩
    by_cases c0 : (y 1).val < 128
    · exact Or.inr <| Or.inr <| Or.inr <| Or.inr <| Or.inr <| Or.inr <| Or.inr <| hm _ 0 (k0_off4_eq k) (by omega) (by omega)
    by_cases c1 : (y 1).val < 256
    · exact Or.inr <| Or.inr <| Or.inr <| Or.inr <| Or.inr <| Or.inr <| Or.inl <| hm _ 1 (k0_off6_eq k) (by omega) (by omega)
    by_cases c2 : (y 1).val < 384
    · exact Or.inr <| Or.inr <| Or.inr <| Or.inr <| Or.inr <| Or.inl <| hm _ 2 (k0_off8_eq k) (by omega) (by omega)
    by_cases c3 : (y 1).val < 512
    · exact Or.inr <| Or.inr <| Or.inr <| Or.inr <| Or.inl <| hm _ 3 (k0_off10_eq k) (by omega) (by omega)
    by_cases c4 : (y 1).val < 640
    · exact Or.inr <| Or.inr <| Or.inr <| Or.inl <| hm _ 4 (k0_off12_eq k) (by omega) (by omega)
    by_cases c5 : (y 1).val < 768
    · exact Or.inr <| Or.inr <| Or.inl <| hm _ 5 (k0_off14_eq k) (by omega) (by omega)
    by_cases c6 : (y 1).val < 896
    · exact Or.inr <| Or.inl <| hm _ 6 (k0_off16_eq k) (by omega) (by omega)
    by_cases c7 : (y 1).val < 1024
    · exact Or.inl <| hm _ 7 (k0_off18_eq k) (by omega) (by omega)
    omega
  · intro y h0 p hp
    have hn : ∀ (o : Fin 2 → Nat) (j : Nat) (inb), o = ![128 * k.val, 128 * j] → y ∉ (Rect.unit (s := S5120x1024) o S128x128.size inb).set := by
      rintro o j inb rfl hmem
      have := (Rect.mem_set_unit.mp hmem 0).1
      exact absurd this (by show ¬ (128 * k.val ≤ _); omega)
    simp only [List.mem_cons, List.not_mem_nil, _root_.or_false] at hp
    rcases hp with rfl | rfl | rfl | rfl | rfl | rfl | rfl | rfl
    · exact hn _ 7 (k0_off18_inb k) (k0_off18_eq k)
    · exact hn _ 6 (k0_off16_inb k) (k0_off16_eq k)
    · exact hn _ 5 (k0_off14_inb k) (k0_off14_eq k)
    · exact hn _ 4 (k0_off12_inb k) (k0_off12_eq k)
    · exact hn _ 3 (k0_off10_inb k) (k0_off10_eq k)
    · exact hn _ 2 (k0_off8_inb k) (k0_off8_eq k)
    · exact hn _ 1 (k0_off6_inb k) (k0_off6_eq k)
    · exact hn _ 0 (k0_off4_inb k) (k0_off4_eq k)

/-- Before trip `k` the scratch reads the dequantised weights on the rows of the trips before. -/
abbrev invD (𝒱 : Variants) (c : Dev nD) (bd : Option 𝒱.V) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole) (arg0 : BitVec 32) (v1 : Elt F .i32) (v3 : Elt F .i32) (v5 : Elt F .i32) (v8 : Elt F .i32) (k0_hw1 : k0_chk1 i v1 v3 v5 v8) (k0_h1 : k0_cond1 v1 v3 v8 = 1#1)
    (X_arg7 : BufTy.Contents (Elt F) arg7.view.ty) (X_arg9 : BufTy.Contents (Elt F) arg9.view.ty) (k : ℕ) (_u : PUnit) : sProp 𝕄G :=
  iprop((arg7.view.loc (c : Thread nD τ) ↦[arg7.view.set]{fullShare} X_arg7) ∗ (arg9.view.loc (c : Thread nD τ) ↦[arg9.view.set]{fullShare} X_arg9)
    ∗ (∃ f, (arg11.view.loc (c : Thread nD τ) ↦[arg11.view.set]{fullShare} f)
        ∗ ⌜v5.toNat < 8 → ∀ y : S5120x1024.Idx, (y 0).val < 128 * k →
            arg11.view.read (Elt F) f y = dq (i 0).val v5.toNat (arg7.view.read (Elt F) X_arg7) (arg9.view.read (Elt F) X_arg9) y⌝))

set_option warn.classDefReducibility false in
/-- The loop by its invariant. -/
@[sl_loop] def loopInvD (𝒱 : Variants) (c : Dev nD) (bd : Option 𝒱.V) (E : Set ℕ) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole) (arg0 : BitVec 32) (v1 : Elt F .i32) (v3 : Elt F .i32) (v5 : Elt F .i32) (v8 : Elt F .i32) (k0_hw1 : k0_chk1 i v1 v3 v5 v8) (k0_h1 : k0_cond1 v1 v3 v8 = 1#1)
    (X_arg7 : BufTy.Contents (Elt F) arg7.view.ty) (X_arg9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg0 v1 v3 v5 v8 k0_hw1 k0_h1 where
  inv := invD (F := F) 𝒱 c bd i arg2 harg2 arg3 harg3 arg4 harg4 arg5 harg5 arg6 harg6 arg7 harg7 arg8 harg8 arg9 harg9 arg10 harg10 arg11 harg11 arg0 v1 v3 v5 v8 k0_hw1 k0_h1 X_arg7 X_arg9
  step k acc := by
    iintro ⟨HR_arg7, HR_arg9, ⟨%f_arg11, HW_arg11, %h_arg11⟩⟩
    iapply (wp_wand_r Idealize.ShloMosaic.frame (wpE (defs₀ (F := F)) 𝒱 (c : Thread nD τ) bd) E)
    isplitl [HR_arg7 HR_arg9 HW_arg11]
    · iapply ((tripD (F := F) 𝒱 c bd i arg2 harg2 arg3 harg3 arg4 harg4 arg5 harg5 arg6 harg6 arg7 harg7 arg8 harg8 arg9 harg9 arg10 harg10 arg11 harg11 arg0 v1 v3 v5 v8 k0_hw1 k0_h1 X_arg7 X_arg9 k).2 E f_arg11)
      isplitl [HR_arg7]; · iexact HR_arg7
      isplitl [HR_arg9]; · iexact HR_arg9
      iexact HW_arg11
    · iintro %_ ⟨HR_arg7, HR_arg9, HW_arg11⟩
      isplitl [HR_arg7]; · iexact HR_arg7
      isplitl [HR_arg9]; · iexact HR_arg9
      iexists _; isplitl [HW_arg11]; · iexact HW_arg11
      ipureintro
      intro he y hy
      obtain ⟨hp, hc, hcn⟩ := tripD_spec (F := F) 𝒱 c bd i arg2 harg2 arg3 harg3 arg4 harg4 arg5 harg5 arg6 harg6 arg7 harg7 arg8 harg8 arg9 harg9 arg10 harg10 arg11 harg11 arg0 v1 v3 v5 v8 k0_hw1 k0_h1 he X_arg7 X_arg9 k
      by_cases hlt : 128 * k.val ≤ (y 0).val
      · exact View.read_writes_apply_of_pieces _ _ _ _ hp y (hc y hlt (by omega))
      · rw [View.read_writes_apply_of_forall_not_mem _ _ _ _ (hcn y (by omega))]
        exact h_arg11 he y (by omega)

/-- The word of a table at the point's work item. -/
abbrev wd (a : Memref sig .tc .smem S31 .i32) (i : grid0.Coords) (T : BufTy.Contents (Elt F) a.view.ty) : Elt F .i32 :=
  a.view.readAt (Elt F) (Rect.unit (s := S31) (k0_off1 i) S1.size (k0_off1_inb i)).toLoadRect T
    (Shape.Idx.first (Nat.lt_of_lt_of_eq Nat.zero_lt_one numel1_S1.symm))
/-- The same, at the offsets of the body's second read of the tile table. -/
abbrev wd2 (a : Memref sig .tc .smem S31 .i32) (i : grid0.Coords) (T : BufTy.Contents (Elt F) a.view.ty) : Elt F .i32 :=
  a.view.readAt (Elt F) (Rect.unit (s := S31) (k0_off19 i) S1.size (k0_off19_inb i)).toLoadRect T
    (Shape.Idx.first (Nat.lt_of_lt_of_eq Nat.zero_lt_one numel1_S1.symm))

/-- The second store's condition is the negation of the first's. -/
theorem cond4_iff (v1 v3 v21 : BitVec 32) : k0_cond4 v1 v3 v21 = 1#1 ↔ ¬ k0_cond3 v1 v3 v21 = 1#1 := by
  unfold k0_cond4 k0_cond3
  have h : ∀ b : BitVec 1, Scalar.cmpi .ne (Scalar.extui (Scalar.xori b 1#1) : BitVec 32) 0#32 = 1#1
      ↔ ¬ Scalar.cmpi .ne (Scalar.extui b : BitVec 32) 0#32 = 1#1 := by decide
  exact h _

section Body
variable (𝒱 : Variants) (c : Dev nD) (i : grid0.Coords) (arg2 : Memref sig .tc .smem S31 .i32) (harg2 : arg2.IsWhole) (arg3 : Memref sig .tc .smem S31 .i32) (harg3 : arg3.IsWhole) (arg4 : Memref sig .tc .smem S31 .i32) (harg4 : arg4.IsWhole) (arg5 : Memref sig .tc .smem S31 .i32) (harg5 : arg5.IsWhole) (arg6 : Memref sig .tc .smem S31 .i32) (harg6 : arg6.IsWhole) (arg7 : Memref sig .tc .smem S20480 .f32) (harg7 : arg7.IsWhole) (arg8 : Memref sig .tc .vmem S512x5120 .bf16) (harg8 : arg8.IsWhole) (arg9 : Memref sig .tc .vmem S1x5120x1024 .fp8e4m3) (harg9 : arg9.IsWhole) (arg10 : Memref sig .tc .vmem S512x1024 .bf16) (harg10 : arg10.IsWhole) (arg11 : Memref sig .tc .vmem S5120x1024 .bf16) (harg11 : arg11.IsWhole)

/-- What the body leaves: the scratch dequantised when the item starts a new expert, the output block written when the
item has rows. -/
def BodyPost (w1 w3 w5 w8 w21 : BitVec 32) (x7 : S20480.Idx → Elt F .f32) (x8 : S512x5120.Idx → Elt F .bf16) (x9 : S1x5120x1024.Idx → Elt F .fp8e4m3)
    (o o' : S512x1024.Idx → Elt F .bf16) (s s' : S5120x1024.Idx → Elt F .bf16) (n : Nat) : Prop :=
  (k0_cond1 w1 w3 w8 = 1#1 → w5.toNat < 8 → s' = dq n w5.toNat x7 x9)
  ∧ (¬ k0_cond1 w1 w3 w8 = 1#1 → s' = s)
  ∧ (k0_cond2 w1 w3 = 1#1 → k0_cond3 w1 w3 w21 = 1#1 → o' = k0_pay1 x8 s')
  ∧ (k0_cond2 w1 w3 = 1#1 → ¬ k0_cond3 w1 w3 w21 = 1#1 → o' = k0_pay2 w1 w3 x8 s' w21 o)
  ∧ (¬ k0_cond2 w1 w3 = 1#1 → o' = o)

abbrev pt {sp : Space} {s : Shape} {e : EltTy} (c : Dev nD) (a : Memref sig .tc sp s e) (q : PosShare TreeShare) (f : BufTy.Contents (Elt F) a.view.ty) : sProp 𝕄G :=
  iprop(a.view.loc (c : Thread nD τ) ↦[a.view.set]{q} f)

theorem body_run (q : PosShare TreeShare)
    (T2 : BufTy.Contents (Elt F) arg2.view.ty) (T3 : BufTy.Contents (Elt F) arg3.view.ty) (T4 : BufTy.Contents (Elt F) arg4.view.ty)
    (T5 : BufTy.Contents (Elt F) arg5.view.ty) (T6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty)
    (hchk : k0_chk1 i (wd (F := F) arg4 i T4) (wd (F := F) arg5 i T5) (wd (F := F) arg3 i T3) (wd (F := F) arg6 i T6)) :
    iprop(pt c arg2 q T2 ∗ pt c arg3 q T3 ∗ pt c arg4 q T4 ∗ pt c arg5 q T5 ∗ pt c arg6 q T6
      ∗ pt c arg7 fullShare X7 ∗ pt c arg8 fullShare X8 ∗ pt c arg9 fullShare X9 ∗ pt c arg10 fullShare X10 ∗ pt c arg11 fullShare X11)
    ⊢ wp frame (wpE (defs₀ (F := F)) 𝒱 (c : Thread nD τ) none) Set.univ (cc0_gmm i arg2 harg2 arg3 harg3 arg4 harg4 arg5 harg5 arg6 harg6 arg7 harg7 arg8 harg8 arg9 harg9 arg10 harg10 arg11 harg11)
      (fun _ => iprop(pt c arg2 q T2 ∗ pt c arg3 q T3 ∗ pt c arg4 q T4 ∗ pt c arg5 q T5 ∗ pt c arg6 q T6
        ∗ pt c arg7 fullShare X7 ∗ pt c arg8 fullShare X8 ∗ pt c arg9 fullShare X9
        ∗ ∃ f10 f11, pt c arg10 fullShare f10 ∗ pt c arg11 fullShare f11
          ∗ ⌜BodyPost (F := F) (wd (F := F) arg4 i T4) (wd (F := F) arg5 i T5) (wd (F := F) arg3 i T3) (wd (F := F) arg6 i T6) (wd2 (F := F) arg2 i T2)
              (arg7.view.read (Elt F) X7) (arg8.view.read (Elt F) X8) (arg9.view.read (Elt F) X9)
              (arg10.view.read (Elt F) X10) (arg10.view.read (Elt F) f10) (arg11.view.read (Elt F) X11) (arg11.view.read (Elt F) f11) (i 0).val⌝)) := by
  rw [cc0_gmm_eq_skeleton]
  unfold cc0_gmm_skel
  iintro ⟨H2, H3, H4, H5, H6, H7, H8, H9, H10, H11⟩
  by_cases h1 : k0_cond1 (wd (F := F) arg4 i T4) (wd (F := F) arg5 i T5) (wd (F := F) arg6 i T6) = 1#1
  · sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexists _
    isplitl [H10]; · iexact H10
    isplitl [H11]; · iexact H11
    ipureintro
    refine ⟨fun _ he => funext fun y => hL3 he y (lt_of_lt_of_le (y 0).isLt (by decide)), fun h => absurd h1 h, fun h2 h3 => ?_, fun h2 h3 => ?_, fun h2 => ?_⟩
    · have h4 := mt (cond4_iff _ _ _).1 (not_not.2 h3)
      refine (congrArg (arg10.view.read (Elt F)) ((dif_pos h2).trans ((dif_neg h4).trans (dif_pos h3)))).trans ?_
      rw [View.read_writes_full, View.readAt_full, View.readAt_full]
    · have h4 := (cond4_iff _ _ _).2 h3
      refine (congrArg (arg10.view.read (Elt F)) ((dif_pos h2).trans (dif_pos h4))).trans ?_
      rw [View.read_writes_full, View.readAt_full, View.readAt_full]
      exact congrArg (k0_pay2 _ _ _ _ _) ((congrArg (View.readAt (Elt F) arg10.view (Rect.unit (s := S512x1024) ![0, 0] S512x1024.size inb_S512x1024_S512x1024_0_0).toLoadRect) (dif_neg h3)).trans (View.readAt_full _ _ _))
    · exact congrArg (arg10.view.read (Elt F)) (dif_neg h2)
  · sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexists _
    isplitl [H10]; · iexact H10
    isplitl [H11]; · iexact H11
    ipureintro
    refine ⟨fun h => absurd h h1, fun _ => rfl, fun h2 h3 => ?_, fun h2 h3 => ?_, fun h2 => ?_⟩
    · have h4 := mt (cond4_iff _ _ _).1 (not_not.2 h3)
      refine (congrArg (arg10.view.read (Elt F)) ((dif_pos h2).trans ((dif_neg h4).trans (dif_pos h3)))).trans ?_
      rw [View.read_writes_full, View.readAt_full, View.readAt_full]
    · have h4 := (cond4_iff _ _ _).2 h3
      refine (congrArg (arg10.view.read (Elt F)) ((dif_pos h2).trans (dif_pos h4))).trans ?_
      rw [View.read_writes_full, View.readAt_full, View.readAt_full]
      exact congrArg (k0_pay2 _ _ _ _ _) ((congrArg (View.readAt (Elt F) arg10.view (Rect.unit (s := S512x1024) ![0, 0] S512x1024.size inb_S512x1024_S512x1024_0_0).toLoadRect) (dif_neg h3)).trans (View.readAt_full _ _ _))
    · exact congrArg (arg10.view.read (Elt F)) (dif_neg h2)

end Body

end Cert.KernelIdeal.Hand

end
-- ==== Proof.KIRun.lean ====
/-
  The launch: the proof data of the one pipelined call (each input window at its block, the output window held to a
  relation, the scratch held to an invariant), its body obligation from the body's triple, and the run of the whole
  program after the host operations that compute the tables.
-/
module

public import proofs.«01_k».proof.Proof.KIBody
public import proofs.«01_k».proof.Proof.Gen.KernelIdeal.Launch
public import Idealize.ShloMosaic.Lib.Pipeline.Frame
public import Idealize.ShloMosaic.Lib.Pipeline.DatRel
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄G" => MT nD τ sig Unit (Elt F) ℕ (UR sig nD τ) ℕ

/-- The word of table `k` at work item `j`. -/
abbrev tw (T : pre0.Contents (Elt F)) (k : Fin 5) (i : grid0.Coords) : BitVec 32 :=
  match k with
  | 0 => T 0 (ValueIdx.ix1 (i 1))
  | 1 => T 1 (ValueIdx.ix1 (i 1))
  | 2 => T 2 (ValueIdx.ix1 (i 1))
  | 3 => T 3 (ValueIdx.ix1 (i 1))
  | 4 => T 4 (ValueIdx.ix1 (i 1))

section Data

variable (V : (c : Dev nD) → (b : Ref sig .tc) → Buf (Elt F) ((c : Thread nD τ).loc b))
variable (T : pre0.Contents (Elt F)) (hok : ok0 T)

/-- The call at the tables' contents. -/
abbrev cfgT : Cfg sig Λ₀ := cfg0 (F := F) ⟨T, hok⟩

/-- Window `w`'s block at a point, cut from the array as the call finds it. -/
def iblk (c : Dev nD) (w : Fin (cfgT T hok).W) (t : Fin (cfgT T hok).N) : (((cfgT T hok).win w).xblock ((cfgT T hok).grid.coords t)).Idx → Elt F ((cfgT T hok).win w).elt :=
  (((cfgT T hok).win w).blk t).view.read (Elt F) (V c (Pipeline.arrRef spec0 w))

variable (Inv : Nat → (S5120x1024.Idx → Elt F .bf16) → Prop)
variable (Rl3 : Fin (cfgT T hok).N → (S512x1024.Idx → Elt F .bf16) → Prop)

/-- The scratch at contents that meet the invariant. -/
def scr (c : Dev nD) (P : (S5120x1024.Idx → Elt F .bf16) → Prop) : sProp 𝕄G :=
  iprop(∃ f, pt (F := F) c (Memref.whole cc0_scratch0) fullShare f ∗ ⌜P ((Memref.whole cc0_scratch0).view.read (Elt F) f)⌝)

/-- The exact part of the data. -/
def datX (c : Dev nD) : Dat τ (Elt F) Unit ℕ (UR sig nD τ) ℕ (cfgT T hok) c where
  A w := V c (Pipeline.arrRef spec0 w)
  after w t := match w with
    | ⟨0, _⟩ => iblk V T hok c 0 t
    | ⟨1, _⟩ => iblk V T hok c 1 t
    | ⟨2, _⟩ => iblk V T hok c 2 t
    | ⟨3, _⟩ => iblk V T hok c 3 t
  Φ t := iprop(scr c (Inv t.val) ∗ (∃ r, prngReg c r) ∗ Pipeline.ΦT pre0 T c)
  q _ := fullShare
  owed _ := 0

/-- The output window is the one held to a relation. -/
abbrev fgt : Fin (cfgT T hok).W → Bool := fun | ⟨3, _⟩ => true | ⟨_, _⟩ => false

/-- The relation, by window. -/
abbrev RlW : (w : Fin (cfgT T hok).W) → Fin (cfgT T hok).N → (((cfgT T hok).win w).block.Idx → Elt F ((cfgT T hok).win w).elt) → Prop :=
  fun | ⟨3, _⟩ => Rl3 | ⟨_, _⟩ => fun _ _ => True

/-- The data. -/
abbrev rdatX (c : Dev nD) : RDat τ (Elt F) Unit ℕ (UR sig nD τ) ℕ (cfgT T hok) c :=
  (datX V T hok Inv c).toRRel (fgt T hok) (RlW T hok Rl3)

theorem before0 (c : Dev nD) (t) (d) : (datX V T hok Inv c).before 0 t d = iblk V T hok c 0 t :=
  ((datX V T hok Inv c).before_in_eq_fetched 0 rfl (fun _ => rfl) (fun _ _ _ => rfl) (fun t => rfl) t d).trans rfl
theorem before1 (c : Dev nD) (t) (d) : (datX V T hok Inv c).before 1 t d = iblk V T hok c 1 t :=
  ((datX V T hok Inv c).before_in_eq_fetched 1 rfl (fun _ => rfl) (fun _ _ _ => rfl) (fun t => rfl) t d).trans rfl
theorem before2 (c : Dev nD) (t) (d) : (datX V T hok Inv c).before 2 t d = iblk V T hok c 2 t :=
  ((datX V T hok Inv c).before_in_eq_fetched 2 rfl (fun _ => rfl) (fun _ _ _ => rfl) (fun t => rfl) t d).trans rfl

/-- The step the body takes at a point: from the scratch's invariant and what the output block may hold, what the body
leaves (`BodyPost`) meets the next invariant and the relation. -/
def Step (c : Dev nD) : Prop :=
  ∀ (t : Fin (cfgT T hok).N) (B B' : S5120x1024.Idx → Elt F .bf16) (O O' : S512x1024.Idx → Elt F .bf16),
    Inv t.val B → (rdatX V T hok Inv Rl3 c).Finds 3 t O →
    BodyPost (F := F) (tw T 2 (grid0.coords t)) (tw T 3 (grid0.coords t)) (tw T 1 (grid0.coords t)) (tw T 4 (grid0.coords t)) (tw T 0 (grid0.coords t))
      (iblk V T hok c 0 t) (iblk V T hok c 1 t) (iblk V T hok c 2 t) O O' B B' (grid0.coords t 0).val →
    Inv (t.val + 1) B' ∧ Rl3 t O'

/-- The side condition the body checks of the words it reads. -/
def Chk : Prop := ∀ i : grid0.Coords, k0_chk1 i (tw T 2 i) (tw T 3 i) (tw T 1 i) (tw T 4 i)

theorem off1_idx (i : grid0.Coords) :
    (Rect.unit (s := S31) (k0_off1 i) S1.size (k0_off1_inb i)).emb (Shape.Idx.first (Nat.lt_of_lt_of_eq Nat.zero_lt_one numel1_S1.symm)) = ValueIdx.ix1 (i 1) := by
  funext a
  apply Fin.ext
  match a with
  | ⟨0, _⟩ =>
    have hz : (Shape.Idx.first (Nat.lt_of_lt_of_eq Nat.zero_lt_one numel1_S1.symm) : S1.Idx) (⟨0, by decide⟩ : Fin S1.rank) < (1 : Nat) := Fin.isLt _
    have h0 : k0_off1 i 0 = (i 1).val := congrFun (k0_off1_eq i) 0
    exact (show k0_off1 i 0 + 1 * (Shape.Idx.first (Nat.lt_of_lt_of_eq Nat.zero_lt_one numel1_S1.symm) : S1.Idx) (⟨0, by decide⟩ : Fin S1.rank) = (i 1).val by omega)

theorem off19_idx (i : grid0.Coords) :
    (Rect.unit (s := S31) (k0_off19 i) S1.size (k0_off19_inb i)).emb (Shape.Idx.first (Nat.lt_of_lt_of_eq Nat.zero_lt_one numel1_S1.symm)) = ValueIdx.ix1 (i 1) := by
  funext a
  apply Fin.ext
  match a with
  | ⟨0, _⟩ =>
    have hz : (Shape.Idx.first (Nat.lt_of_lt_of_eq Nat.zero_lt_one numel1_S1.symm) : S1.Idx) (⟨0, by decide⟩ : Fin S1.rank) < (1 : Nat) := Fin.isLt _
    have h0 : k0_off19 i 0 = (i 1).val := congrFun (k0_off19_eq i) 0
    exact (show k0_off19 i 0 + 1 * (Shape.Idx.first (Nat.lt_of_lt_of_eq Nat.zero_lt_one numel1_S1.symm) : S1.Idx) (⟨0, by decide⟩ : Fin S1.rank) = (i 1).val by omega)

theorem wd0 (i : grid0.Coords) : wd2 (F := F) (Memref.whole main_v53) i (T 0) = tw T 0 i := congrArg (T 0) (off19_idx i)
theorem wd1 (i : grid0.Coords) : wd (F := F) (Memref.whole main_v28) i (T 1) = tw T 1 i := congrArg (T 1) (off1_idx i)
theorem wd_2 (i : grid0.Coords) : wd (F := F) (Memref.whole main_v61) i (T 2) = tw T 2 i := congrArg (T 2) (off1_idx i)
theorem wd3 (i : grid0.Coords) : wd (F := F) (Memref.whole main_v69) i (T 3) = tw T 3 i := congrArg (T 3) (off1_idx i)
theorem wd4 (i : grid0.Coords) : wd (F := F) (Memref.whole main_v75) i (T 4) = tw T 4 i := congrArg (T 4) (off1_idx i)

/-- The tables one by one. -/
theorem tabs_eq (c : Dev nD) : (Pipeline.ΦT pre0 T c : sProp 𝕄G)
    = iprop(pt c (Memref.whole main_v53) fullShare.right (T 0) ∗ pt c (Memref.whole main_v28) fullShare.right (T 1)
      ∗ pt c (Memref.whole main_v61) fullShare.right (T 2) ∗ pt c (Memref.whole main_v69) fullShare.right (T 3)
      ∗ pt c (Memref.whole main_v75) fullShare.right (T 4)) := by
  unfold Pipeline.ΦT Pipeline.prefHeld pt
  rw [bigSep_univ_eq_bigSepL [(0 : Fin 5), 1, 2, 3, 4] (by decide) (by decide)]
  simp only [View.set_whole]
  rfl

/-- The body at a point, on the staging buffers the call hands it. -/
abbrev bodyT (t : Fin (cfgT T hok).N) := cc0_gmm (F := F) (grid0.coords t) (Memref.whole main_v53) (Memref.isWhole_whole _) (Memref.whole main_v28) (Memref.isWhole_whole _) (Memref.whole main_v61) (Memref.isWhole_whole _) (Memref.whole main_v69) (Memref.isWhole_whole _) (Memref.whole main_v75) (Memref.isWhole_whole _)
  (spec0_0.stage ((cfgT T hok).slots t 0)) (hstage0_0 (((cfgT T hok).slots t 0).cast nbuf0_0)) (spec0_1.stage ((cfgT T hok).slots t 1)) (hstage0_1 (((cfgT T hok).slots t 1).cast nbuf0_1))
  (spec0_2.stage ((cfgT T hok).slots t 2)) (hstage0_2 (((cfgT T hok).slots t 2).cast nbuf0_2)) (spec0_3.stage ((cfgT T hok).slots t 3)) (hstage0_3 (((cfgT T hok).slots t 3).cast nbuf0_3))
  (Memref.whole cc0_scratch0) (Memref.isWhole_whole _)

theorem row (t : Fin (cfgT T hok).N) : defs₀ (F := F) .tc (cfgT T hok).body ((cfgT T hok).bodyArgs t ((cfgT T hok).slots t)) = bodyT T hok t := by
  unfold defs₀; rw [Defs.onTc_tc]

theorem Phi_at (c : Dev nD) (t : Fin ((cfgT T hok).N + 1)) :
    (datX V T hok Inv c).Φ t = iprop(scr c (Inv t.val) ∗ (∃ r, prngReg c r) ∗ Pipeline.ΦT pre0 T c) := by dsimp only [datX]
theorem after_0 (c : Dev nD) (t) : (datX V T hok Inv c).after 0 t = iblk V T hok c 0 t := by dsimp only [datX]; rfl
theorem after_1 (c : Dev nD) (t) : (datX V T hok Inv c).after 1 t = iblk V T hok c 1 t := by dsimp only [datX]; rfl
theorem after_2 (c : Dev nD) (t) : (datX V T hok Inv c).after 2 t = iblk V T hok c 2 t := by dsimp only [datX]; rfl
theorem owesAt_succ (c : Dev nD) (t : Fin (cfgT T hok).N) :
    (datX V T hok Inv c).owesAt () t.succ = (datX V T hok Inv c).owesAt () t.castSucc := rfl

set_option maxHeartbeats 4000000 in
theorem sound (hchk : Chk T) (c : Dev nD) (hstep : Step V T hok Inv Rl3 c) (t : Fin (cfgT T hok).N) :
    iprop((datX V T hok Inv c).Φ t.castSucc ∗ (datX V T hok Inv c).owesAt () t.castSucc
      ∗ (∃ d, owns (c : Thread nD τ) (spec0_0.stage ((cfgT T hok).slots t 0)) fullShare ((datX V T hok Inv c).before 0 t d))
      ∗ (∃ d, owns (c : Thread nD τ) (spec0_1.stage ((cfgT T hok).slots t 1)) fullShare ((datX V T hok Inv c).before 1 t d))
      ∗ (∃ d, owns (c : Thread nD τ) (spec0_2.stage ((cfgT T hok).slots t 2)) fullShare ((datX V T hok Inv c).before 2 t d))
      ∗ (∃ Y, ⌜(rdatX V T hok Inv Rl3 c).Finds 3 t Y⌝ ∗ owns (c : Thread nD τ) (spec0_3.stage ((cfgT T hok).slots t 3)) fullShare Y))
    ⊢ wp frame (wpE (defs₀ (F := F)) Variants.none (c : Thread nD τ) none) Set.univ (bodyT T hok t) (fun _ =>
      iprop((datX V T hok Inv c).Φ t.succ ∗ (datX V T hok Inv c).owesAt () t.succ
        ∗ owns (c : Thread nD τ) (spec0_0.stage ((cfgT T hok).slots t 0)) fullShare ((datX V T hok Inv c).after 0 t)
        ∗ owns (c : Thread nD τ) (spec0_1.stage ((cfgT T hok).slots t 1)) fullShare ((datX V T hok Inv c).after 1 t)
        ∗ owns (c : Thread nD τ) (spec0_2.stage ((cfgT T hok).slots t 2)) fullShare ((datX V T hok Inv c).after 2 t)
        ∗ (∃ X, ⌜Rl3 t X⌝ ∗ owns (c : Thread nD τ) (spec0_3.stage ((cfgT T hok).slots t 3)) fullShare X))) := by
  simp only [before0, before1, before2]
  rw [owesAt_succ, Phi_at V T hok Inv c t.succ, Phi_at V T hok Inv c t.castSucc, after_0, after_1, after_2, Fin.val_succ, Fin.val_castSucc, tabs_eq]
  unfold owns scr
  iintro ⟨⟨⟨%f11, H11, %hInv⟩, Hr, H2, H3, H4, H5, H6⟩, Ho, ⟨%d0, %f0, %e0, H7⟩, ⟨%d1, %f1, %e1, H8⟩, ⟨%d2, %f2, %e2, H9⟩, ⟨%Y, %hY, %f3, %e3, H10⟩⟩
  iapply (wp_wand_r Idealize.ShloMosaic.frame (wpE (defs₀ (F := F)) Variants.none (c : Thread nD τ) none) Set.univ)
  isplitl [H2 H3 H4 H5 H6 H7 H8 H9 H10 H11]
  · iapply (body_run (F := F) Variants.none c _ _ _ _ _ _ _ _ _ _ _ _ _ _ _ _ _ _ _ _ _ fullShare.right (T 0) (T 1) (T 2) (T 3) (T 4) f0 f1 f2 f3 f11
      (by rw [wd_2, wd3, wd1, wd4]; exact hchk _))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H2, H3, H4, H5, H6, H7, H8, H9, ⟨%g10, %g11, H10, H11, %hpost⟩⟩
    rw [wd_2, wd3, wd1, wd4, wd0, e0, e1, e2, e3] at hpost
    obtain ⟨hI, hR⟩ := hstep t _ _ _ _ hInv hY hpost
    isplitl [H11 Hr H2 H3 H4 H5 H6]
    · isplitl [H11]
      · iexists g11; isplitl [H11]; · iexact H11
        ipureintro; exact hI
      isplitl [Hr]; · iexact Hr
      isplitl [H2]; · iexact H2
      isplitl [H3]; · iexact H3
      isplitl [H4]; · iexact H4
      isplitl [H5]; · iexact H5
      iexact H6
    isplitl [Ho]; · iexact Ho
    isplitl [H7]
    · iexists f0; isplitr; · ipureintro; exact e0
      iexact H7
    isplitl [H8]
    · iexists f1; isplitr; · ipureintro; exact e1
      iexact H8
    isplitl [H9]
    · iexists f2; isplitr; · ipureintro; exact e2
      iexact H9
    iexists _; isplitr
    · ipureintro; exact hR
    iexists g10; isplitr; · ipureintro; rfl
    iexact H10

theorem body_obl (hchk : Chk T) (c : Dev nD) (hstep : Step V T hok Inv Rl3 c) :
    BodyObligationRel (datX V T hok Inv c) (defs₀ (F := F)) Variants.none () Set.univ (fgt T hok) (RlW T hok Rl3) := fun t => by
  rw [bigSep_W0, bigSep_W0, row]
  exact triple_restated (sound V T hok Inv Rl3 hchk c hstep t) rfl .rfl fun _ => .rfl

end Data

end Cert.KernelIdeal.Hand

end
-- ==== Proof.KILaunch.lean ====
/-
  The run of the whole program: the host operations that compute the tables, then the pipelined call at their
  contents, over the data of `KRun`.
-/
module

public import proofs.«01_k».proof.Proof.KIRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄G" => MT nD τ sig Unit (Elt F) ℕ (UR sig nD τ) ℕ

variable (m : (ℓ : Loc nD τ sig) → Buf (Elt F) ℓ)

/-- The host operations before the call, list by list. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

theorem hostOps0_fr : (hostOps0 : List (HloOp τ sig (Elt F))).Forall fun op => op.fresh = ∅ := by
  simp only [List.Forall]; repeat' constructor
theorem hostOps0_1_fr : (hostOps0_1 : List (HloOp τ sig (Elt F))).Forall fun op => op.fresh = ∅ := by
  simp only [List.Forall]; repeat' constructor
theorem hostOps0_2_fr : (hostOps0_2 : List (HloOp τ sig (Elt F))).Forall fun op => op.fresh = ∅ := by
  simp only [List.Forall]; repeat' constructor
theorem hostOps0_3_fr : (hostOps0_3 : List (HloOp τ sig (Elt F))).Forall fun op => op.fresh = ∅ := by
  simp only [List.Forall]; repeat' constructor
theorem hostOps0_4_fr : (hostOps0_4 : List (HloOp τ sig (Elt F))).Forall fun op => op.fresh = ∅ := by
  simp only [List.Forall]; repeat' constructor
theorem hostOps0_5_fr : (hostOps0_5 : List (HloOp τ sig (Elt F))).Forall fun op => op.fresh = ∅ := by
  simp only [List.Forall]; repeat' constructor
theorem hostOps0_6_fr : (hostOps0_6 : List (HloOp τ sig (Elt F))).Forall fun op => op.fresh = ∅ := by
  simp only [List.Forall]; repeat' constructor
theorem hostOps0_7_fr : (hostOps0_7 : List (HloOp τ sig (Elt F))).Forall fun op => op.fresh = ∅ := by
  simp only [List.Forall]; repeat' constructor
theorem hostOps0_8_fr : (hostOps0_8 : List (HloOp τ sig (Elt F))).Forall fun op => op.fresh = ∅ := by
  simp only [List.Forall]; repeat' constructor
theorem hostOps0_9_fr : (hostOps0_9 : List (HloOp τ sig (Elt F))).Forall fun op => op.fresh = ∅ := by
  simp only [List.Forall]; repeat' constructor
theorem hostOps0_10_fr : (hostOps0_10 : List (HloOp τ sig (Elt F))).Forall fun op => op.fresh = ∅ := by
  simp only [List.Forall]; repeat' constructor
theorem hostOps0_11_fr : (hostOps0_11 : List (HloOp τ sig (Elt F))).Forall fun op => op.fresh = ∅ := by
  simp only [List.Forall]; repeat' constructor
theorem hostOps0_12_fr : (hostOps0_12 : List (HloOp τ sig (Elt F))).Forall fun op => op.fresh = ∅ := by
  simp only [List.Forall]; repeat' constructor
theorem hostOps0_13_fr : (hostOps0_13 : List (HloOp τ sig (Elt F))).Forall fun op => op.fresh = ∅ := by
  simp only [List.Forall]; repeat' constructor
theorem hostOps0_14_fr : (hostOps0_14 : List (HloOp τ sig (Elt F))).Forall fun op => op.fresh = ∅ := by
  simp only [List.Forall]; repeat' constructor
theorem hostOps0_15_fr : (hostOps0_15 : List (HloOp τ sig (Elt F))).Forall fun op => op.fresh = ∅ := by
  simp only [List.Forall]; repeat' constructor
theorem hostOps0_16_fr : (hostOps0_16 : List (HloOp τ sig (Elt F))).Forall fun op => op.fresh = ∅ := by
  simp only [List.Forall]; repeat' constructor
theorem hostOps0_17_fr : (hostOps0_17 : List (HloOp τ sig (Elt F))).Forall fun op => op.fresh = ∅ := by
  simp only [List.Forall]; repeat' constructor
theorem hostOps0_18_fr : (hostOps0_18 : List (HloOp τ sig (Elt F))).Forall fun op => op.fresh = ∅ := by
  simp only [List.Forall]; repeat' constructor

/-- What the call finds in each buffer. -/
def V (c : Dev nD) (b : Ref sig .tc) : Buf (Elt F) ((c : Thread nD τ).loc b) :=
  StableHlo.after (opss (F := F)).flatten (fun b => m (c, b)) b

/-- The tables' contents. -/
def T : pre0.Contents (Elt F) := fun k => V m 0 (pre0.ref k)

/-- The argument is as launched when the call starts. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The argument is as launched when the call starts. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The argument is as launched when the call starts. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The argument is as launched when the call starts. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host program is its operations, then the call. -/
theorem hmain : Pipeline.HMainP (Ix := Unit) (Name := ℕ) (U := UR sig nD τ) (Lvl := ℕ) (pcfgs (F := F)) 0 defs₀ Variants.none m (main (F := F)) (V m) :=
  Pipeline.hmainP_prefixes pcfgs 0 defs₀ Variants.none m main opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩
    ⟨hostOps0_fr, hostOps0_1_fr, hostOps0_2_fr, hostOps0_3_fr, hostOps0_4_fr, hostOps0_5_fr, hostOps0_6_fr, hostOps0_7_fr, hostOps0_8_fr, hostOps0_9_fr, hostOps0_10_fr, hostOps0_11_fr, hostOps0_12_fr, hostOps0_13_fr, hostOps0_14_fr, hostOps0_15_fr, hostOps0_16_fr, hostOps0_17_fr, hostOps0_18_fr⟩ (fun c => main_chain c)

/-- The windows' arrays are the region's. -/
theorem A_eq (hok : ok0 (T m)) (Inv) (c : Dev nD) (w : Fin (cfgT (T m) hok).W) :
    (datX (V m) (T m) hok Inv c).A w = V m c (Pipeline.arrRef spec0 w) := by dsimp only [datX]

set_option backward.isDefEq.respectTransparency.types false in
set_option maxHeartbeats 4000000 in
/-- Every run ends with the output written by blocks that the step relation allows, and the semaphores at zero. -/
theorem run (ρ : Dev nD → PrngReg) (hok : ok0 (T m)) (hchk : Chk (T m))
    (Inv : Nat → (S5120x1024.Idx → Elt F .bf16) → Prop) (hInv0 : ∀ B, Inv 0 B)
    (Rl3 : Fin (cfgT (T m) hok).N → (S512x1024.Idx → Elt F .bf16) → Prop)
    (hstep : ∀ c, Step (V m) (T m) hok Inv Rl3 c) :
    θ_run (defs (F := F)) (onTc (τ := τ) (main (F := F))) ⟨m, fun _ => 0, ρ⟩ (fun r =>
      RDat.FramePost (cfgT (T m) hok) (fun c => rdatX (V m) (T m) hok Inv Rl3 c) (V m) r ∧ r.2.sem = fun _ => 0) :=
  RDat.θ_run_frameP_track (pcfgs (F := F)) (fun _ => ⟨T m, hok⟩) 0 launch0 defs₀ Variants.none
    (fun c => rdatX (V m) (T m) hok Inv Rl3 c) m ρ main
    (fun c => (body_obl (V m) (T m) hok Inv Rl3 hchk c (hstep c)).toRRel)
    (fun c => (datX (V m) (T m) hok Inv c).share_full fun _ => rfl)
    (fun _ _ => rfl) (V m) (hmain m) (fun c w => A_eq m hok Inv c w)
    (fun c k => by obtain rfl : c = 0 := Subsingleton.elim _ _; rfl)
    (fun c => by
      show _ ⊢ (datX (V m) (T m) hok Inv c).Φ 0
      rw [Phi_at]
      unfold Pipeline.ΦA scr pt
      rw [show (Pipeline.scopedRest _ c : sProp 𝕄G) = _ from scopedRest0_eq c, View.set_whole]
      iintro ⟨⟨⟨%f, H⟩, Hp⟩, HT⟩
      isplitl [H]
      · iexists f
        isplitl [H]; · iexact H
        ipureintro; exact hInv0 _
      isplitl [Hp]; · iexact Hp
      iexact HT)
    (fun c => by
      show (datX (V m) (T m) hok Inv c).Φ (Fin.last _) ⊢ _
      rw [Phi_at]
      unfold Pipeline.ΦA scr pt
      rw [show (Pipeline.scopedRest _ c : sProp 𝕄G) = _ from scopedRest0_eq c, View.set_whole]
      iintro ⟨⟨%f, H, %_⟩, Hp, HT⟩
      isplitl [H]
      · iexists f; iexact H
      iexact Hp)
    _ (fun _ h => h)

/-- The arguments end unchanged. -/
theorem args_of (hok : ok0 (T m)) (Inv) (Rl3) (r : PUnit × MemSt nD τ sig (Elt F))
    (h : RDat.FramePost (cfgT (T m) hok) (fun c => rdatX (V m) (T m) hok Inv Rl3 c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.arr_in c 1 rfl).trans (A_eq m hok Inv c 1)).trans (V_main_arg0 m c),
   ((h c).2 main_arg1 (Pipeline.mem_restRefs_of main_arg1 (by decide) (show ∀ w : Fin 4, (spec0 w).arr.view.ref ≠ main_arg1 by decide))).trans (V_main_arg1 m c),
   ((h.arr_in c 2 rfl).trans (A_eq m hok Inv c 2)).trans (V_main_arg2 m c),
   ((h c).2 main_arg3 (Pipeline.mem_restRefs_of main_arg3 (by decide) (show ∀ w : Fin 4, (spec0 w).arr.view.ref ≠ main_arg3 by decide))).trans (V_main_arg3 m c)⟩

end Cert.KernelIdeal.Hand

end
-- ==== Proof.KITab.lean ====
/-
  The equations of the vectors the host computes from the group sizes, read off the operations before the launch.
-/
module

public import proofs.«01_k».proof.Proof.KILaunch
public import proofs.«01_k».proof.Proof.Tab
public import Idealize.ShloMosaic.Lib.StableHlo.ReadAt
public import Idealize.ShloMosaic.Lib.Routing.OpsSearch

@[expose] public section

set_option maxRecDepth 16384
set_option maxHeartbeats 4000000

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

/-- `x[eid]`, the index wrapped if negative. -/
def taken (x : IVec S8 32) (eid : IVec S31 32) : IVec S31 32 :=
  Host.gather gather_S8_S31x1_S31_n_0_n_n_0_1_1 x (broadcastInDim S31x1 ![0] bcast_S31_S31x1_0
    (select (cmpi .slt eid (broadcastInDim S31 ![] bcast_S_S31 (constantI S_ 32 0#32)))
      (addi eid (broadcastInDim S31 ![] bcast_S_S31 (constantI S_ 32 8#32))) eid))

theorem take_taken (x : IVec S8 32) (eid y : IVec S31 32) (h : y = taken x eid) : Tab.Take x eid y :=
  ⟨_, _, _, rfl, rfl, rfl, rfl, h⟩

/-- What each stretch of host operations writes, in order. -/
def wr : List (List (Ref sig .tc)) :=
  [ [main_call0_call0_c, main_call0_call0_v0, main_v0],
    [main_v1, main_c],
    [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2],
    [main_c_0, main_v3, main_v4, main_c_1, main_v5, main_v6, main_c_2],
    [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7],
    [main_v8, main_c_3, main_v9, main_v10, main_c_4],
    [main_call3_v0, main_call3_v1, main_v11],
    [main_call4_call0_c, main_call4_call0_v0, main_v12],
    [main_v13, main_v14, main_v15, main_v16, main_v17, main_v18, main_v19, main_c_5, main_v20, main_c_6, main_v21, main_v22, main_c_7, main_v23, main_v24, main_v25, main_c_8],
    [main_call5_v0, main_call5_v1, main_v26],
    [main_c_9, main_v27],
    [main_call6_v0, main_v28],
    [main_c_10, main_v29, main_v30, main_c_11, main_v31, main_v32, main_v33, main_v34, main_v35, main_v36, main_c_12, main_v37, main_v38, main_c_13, main_v39, main_v40, main_v41, main_v42, main_v43, main_c_14, main_v44, main_v45, main_c_15, main_v46, main_v47, main_v48, main_v49, main_v50, main_v51, main_v52, main_c_16],
    [main_call7_v0, main_call7_v1, main_v53],
    [main_c_17, main_v54, main_v55, main_c_18, main_v56, main_v57, main_v58, main_v59, main_v60, main_c_19],
    [main_call8_v0, main_call8_v1, main_v61],
    [main_c_20, main_v62, main_v63, main_c_21, main_v64, main_v65, main_v66, main_v67, main_v68, main_c_22],
    [main_call9_v0, main_call9_v1, main_v69],
    [main_c_23, main_v70, main_v71, main_v72, main_v73, main_v74, main_v75, main_v76] ]

theorem hwr : (opss (F := F)).map (fun l => l.map HloOp.writes) = wr.map (fun l => l.map fun w => {Proc.devRef (τ := τ) .tc w}) := rfl

/-- The contents after the first `k` stretches. -/
def U (c : Dev nD) (k : Nat) : Valuation τ sig (Elt F) := StableHlo.after (opss.take k).flatten (fun b => m (c, b))

/-- A buffer that no later stretch writes ends as it stands after `k` stretches. -/
theorem V_at (c : Dev nD) (k : Nat) (r : Ref sig .tc) (hr : r ∉ (wr.drop k).flatten) : V m c r = U m c k (Proc.devRef .tc r) := by
  unfold V U
  have h : (opss (F := F)).flatten = (opss.take k).flatten ++ (opss.drop k).flatten := by
    rw [← List.flatten_append, List.take_append_drop]
  rw [h, StableHlo.after_append]
  refine StableHlo.after_unwritten (wr.drop k).flatten ?_ hr _
  have h2 := congrArg (fun l => (l.drop k).flatten) (hwr (F := F))
  simp only [← List.map_drop] at h2
  rw [List.map_flatten, List.map_flatten]
  exact h2

/-- The contents after `k` stretches, from those after `j`. -/
theorem U_win (c : Dev nD) (j k : Nat) (h : j ≤ k) : U m c k = StableHlo.after ((opss.take k).drop j).flatten (U m c j) := by
  unfold U
  rw [← StableHlo.after_append, ← List.flatten_append]
  congr 2
  rw [List.drop_take, ← List.take_add, Nat.add_sub_cancel' h]

theorem V_v0 (c : Dev nD) : (V m c main_v0 : IVec S8 32) = Host.reduceWindow IntOp.addi ![8] ![1] ![7] ![0] (V m c main_arg1 : IVec S8 32) (broadcastInDim S_ ![] bcast_S_S_ (constantI S_ 32 0#32)) reduceWindows_S8_S8_w8s1p7_0 h_S_ := by
  rw [V_at m c 1 main_v0 (by decide), V_at m c 1 main_arg1 (by decide),
    U_win m c 0 1 (by omega), show ((opss (F := F)).take 1).drop 0 = [hostOps0] from rfl]
  generalize U m c 0 = u
  after_reads_simp
  simp -implicitDefEqProofs only [StableHlo.TRef.toBuf, StableHlo.TRef.ofBuf, cast_cast, cast_eq]

theorem V_v1 (c : Dev nD) : (V m c main_v1 : IVec S8 32) = subi (V m c main_v0 : IVec S8 32) (V m c main_arg1 : IVec S8 32) := by
  rw [V_at m c 2 main_v1 (by decide), V_at m c 2 main_v0 (by decide), V_at m c 2 main_arg1 (by decide),
    U_win m c 1 2 (by omega), show ((opss (F := F)).take 2).drop 1 = [hostOps0_1] from rfl]
  generalize U m c 1 = u
  after_reads_simp

theorem V_v2 (c : Dev nD) : (V m c main_v2 : IVec S8 32) = Routing.pyDiv bcast_S_S8 (V m c main_v1 : IVec S8 32) (constantI S_ 32 512#32) := by
  rw [V_at m c 3 main_v2 (by decide), V_at m c 3 main_v1 (by decide),
    U_win m c 1 3 (by omega), show ((opss (F := F)).take 3).drop 1 = [hostOps0_1, hostOps0_2] from rfl]
  generalize U m c 1 = u
  after_reads_simp
  rfl

theorem V_v7 (c : Dev nD) : (V m c main_v7 : IVec S8 32) = Routing.pyDiv bcast_S_S8 (subi (V m c main_v0 : IVec S8 32) (broadcastInDim S8 ![] bcast_S_S8 (constantI S_ 32 1#32))) (constantI S_ 32 512#32) := by
  rw [V_at m c 5 main_v7 (by decide), V_at m c 5 main_v0 (by decide),
    U_win m c 3 5 (by omega), show ((opss (F := F)).take 5).drop 3 = [hostOps0_3, hostOps0_4] from rfl]
  generalize U m c 3 = u
  after_reads_simp
  rfl

theorem V_v11 (c : Dev nD) : (V m c main_v11 : IVec S8 32) = select (cmpi .sgt (V m c main_arg1 : IVec S8 32) (broadcastInDim S8 ![] bcast_S_S8 (constantI S_ 32 0#32))) (addi (subi (V m c main_v7 : IVec S8 32) (V m c main_v2 : IVec S8 32)) (broadcastInDim S8 ![] bcast_S_S8 (constantI S_ 32 1#32))) (broadcastInDim S8 ![] bcast_S_S8 (constantI S_ 32 0#32)) := by
  rw [V_at m c 7 main_v11 (by decide), V_at m c 7 main_arg1 (by decide), V_at m c 7 main_v7 (by decide), V_at m c 7 main_v2 (by decide),
    U_win m c 3 7 (by omega), show ((opss (F := F)).take 7).drop 3 = [hostOps0_3, hostOps0_4, hostOps0_5, hostOps0_6] from rfl]
  generalize U m c 3 = u
  after_reads_simp
  rfl

theorem V_v12 (c : Dev nD) : (V m c main_v12 : IVec S8 32) = Host.reduceWindow IntOp.addi ![8] ![1] ![7] ![0] (V m c main_v11 : IVec S8 32) (broadcastInDim S_ ![] bcast_S_S_ (constantI S_ 32 0#32)) reduceWindows_S8_S8_w8s1p7_0 h_S_ := by
  rw [V_at m c 8 main_v12 (by decide), V_at m c 8 main_v11 (by decide),
    U_win m c 7 8 (by omega), show ((opss (F := F)).take 8).drop 7 = [hostOps0_7] from rfl]
  generalize U m c 7 = u
  after_reads_simp
  simp -implicitDefEqProofs only [StableHlo.TRef.toBuf, StableHlo.TRef.ofBuf, cast_cast, cast_eq]

theorem V_v20 (c : Dev nD) : (V m c main_v20 : IVec S31 32) = Host.reduce IntOp.addi (extui 32 (cmpi .sge (broadcastInDim S31x8 ![0, 1] bcast_S31x1_S31x8_0_1 (broadcastInDim S31x1 ![0] bcast_S31_S31x1_0 (iotaInDim S31 32 0))) (broadcastInDim S31x8 ![0, 1] bcast_S1x8_S31x8_0_1 (broadcastInDim S1x8 ![1] bcast_S8_S1x8_1 (V m c main_v12 : IVec S8 32)))) natLt_1_32) (constantI S_ 32 0#32) reducesTo_S31x8_S31_d1 h_S_ := by
  rw [V_at m c 9 main_v20 (by decide), V_at m c 9 main_v12 (by decide),
    U_win m c 8 9 (by omega), show ((opss (F := F)).take 9).drop 8 = [hostOps0_8] from rfl]
  generalize U m c 8 = u
  after_reads_simp

theorem V_v22 (c : Dev nD) : (V m c main_v22 : IVec S31 1) = cmpi .slt (V m c main_v20 : IVec S31 32) (broadcastInDim S31 ![] bcast_S_S31 (constantI S_ 32 8#32)) := by
  rw [V_at m c 9 main_v22 (by decide), V_at m c 9 main_v20 (by decide),
    U_win m c 8 9 (by omega), show ((opss (F := F)).take 9).drop 8 = [hostOps0_8] from rfl]
  generalize U m c 8 = u
  after_reads_simp

theorem V_v27 (c : Dev nD) : (V m c main_v27 : IVec S_ 32) = Host.reduce IntOp.maxsi (select (cmpi .sgt (V m c main_arg1 : IVec S8 32) (broadcastInDim S8 ![] bcast_S_S8 (constantI S_ 32 0#32))) (iotaInDim S8 32 0) (broadcastInDim S8 ![] bcast_S_S8 (constantI S_ 32 0#32))) (constantI S_ 32 2147483648#32) reducesTo_S8_S_d0 h_S_ := by
  rw [V_at m c 11 main_v27 (by decide), V_at m c 11 main_arg1 (by decide),
    U_win m c 8 11 (by omega), show ((opss (F := F)).take 11).drop 8 = [hostOps0_8, hostOps0_9, hostOps0_10] from rfl]
  generalize U m c 8 = u
  after_reads_simp
  rfl

theorem V_v28 (c : Dev nD) : (V m c main_v28 : IVec S31 32) = select (V m c main_v22 : IVec S31 1) (V m c main_v20 : IVec S31 32) (broadcastInDim S31 ![] bcast_S_S31 (V m c main_v27 : IVec S_ 32)) := by
  rw [V_at m c 12 main_v28 (by decide), V_at m c 12 main_v22 (by decide), V_at m c 12 main_v20 (by decide), V_at m c 12 main_v27 (by decide),
    U_win m c 11 12 (by omega), show ((opss (F := F)).take 12).drop 11 = [hostOps0_11] from rfl]
  generalize U m c 11 = u
  after_reads_simp
  rfl

theorem V_v35 (c : Dev nD) : (V m c main_v35 : IVec S31 32) = taken (V m c main_v2 : IVec S8 32) (V m c main_v28 : IVec S31 32) := by
  rw [V_at m c 13 main_v35 (by decide), V_at m c 13 main_v2 (by decide), V_at m c 13 main_v28 (by decide),
    U_win m c 12 13 (by omega), show ((opss (F := F)).take 13).drop 12 = [hostOps0_12] from rfl]
  generalize U m c 12 = u
  after_reads_simp
  rfl

theorem V_v43 (c : Dev nD) : (V m c main_v43 : IVec S31 32) = taken (V m c main_v12 : IVec S8 32) (V m c main_v28 : IVec S31 32) := by
  rw [V_at m c 13 main_v43 (by decide), V_at m c 13 main_v12 (by decide), V_at m c 13 main_v28 (by decide),
    U_win m c 12 13 (by omega), show ((opss (F := F)).take 13).drop 12 = [hostOps0_12] from rfl]
  generalize U m c 12 = u
  after_reads_simp
  rfl

theorem V_v50 (c : Dev nD) : (V m c main_v50 : IVec S31 32) = taken (V m c main_v11 : IVec S8 32) (V m c main_v28 : IVec S31 32) := by
  rw [V_at m c 13 main_v50 (by decide), V_at m c 13 main_v11 (by decide), V_at m c 13 main_v28 (by decide),
    U_win m c 12 13 (by omega), show ((opss (F := F)).take 13).drop 12 = [hostOps0_12] from rfl]
  generalize U m c 12 = u
  after_reads_simp
  rfl

theorem V_v60 (c : Dev nD) : (V m c main_v60 : IVec S31 32) = taken (V m c main_v1 : IVec S8 32) (V m c main_v28 : IVec S31 32) := by
  rw [V_at m c 15 main_v60 (by decide), V_at m c 15 main_v1 (by decide), V_at m c 15 main_v28 (by decide),
    U_win m c 14 15 (by omega), show ((opss (F := F)).take 15).drop 14 = [hostOps0_14] from rfl]
  generalize U m c 14 = u
  after_reads_simp
  rfl

theorem V_v68 (c : Dev nD) : (V m c main_v68 : IVec S31 32) = taken (V m c main_v0 : IVec S8 32) (V m c main_v28 : IVec S31 32) := by
  rw [V_at m c 17 main_v68 (by decide), V_at m c 17 main_v0 (by decide), V_at m c 17 main_v28 (by decide),
    U_win m c 16 17 (by omega), show ((opss (F := F)).take 17).drop 16 = [hostOps0_16] from rfl]
  generalize U m c 16 = u
  after_reads_simp
  rfl

theorem V_v13 (c : Dev nD) : (V m c main_v13 : IVec S31 32) = iotaInDim S31 32 0 := by
  rw [V_at m c 9 main_v13 (by decide),
    U_win m c 8 9 (by omega), show ((opss (F := F)).take 9).drop 8 = [hostOps0_8] from rfl]
  generalize U m c 8 = u
  after_reads_simp

theorem V_v53 (c : Dev nD) : (V m c main_v53 : IVec S31 32) = select (V m c main_v22 : IVec S31 1) (subi (addi (V m c main_v35 : IVec S31 32) (V m c main_v13 : IVec S31 32)) (subi (V m c main_v43 : IVec S31 32) (V m c main_v50 : IVec S31 32))) (broadcastInDim S31 ![] bcast_S_S31 (constantI S_ 32 23#32)) := by
  rw [V_at m c 14 main_v53 (by decide), V_at m c 14 main_v22 (by decide), V_at m c 14 main_v35 (by decide), V_at m c 14 main_v13 (by decide), V_at m c 14 main_v43 (by decide), V_at m c 14 main_v50 (by decide),
    U_win m c 12 14 (by omega), show ((opss (F := F)).take 14).drop 12 = [hostOps0_12, hostOps0_13] from rfl]
  generalize U m c 12 = u
  after_reads_simp
  rfl

theorem V_v61 (c : Dev nD) : (V m c main_v61 : IVec S31 32) = select (V m c main_v22 : IVec S31 1) (V m c main_v60 : IVec S31 32) (broadcastInDim S31 ![] bcast_S_S31 (constantI S_ 32 0#32)) := by
  rw [V_at m c 16 main_v61 (by decide), V_at m c 16 main_v22 (by decide), V_at m c 16 main_v60 (by decide),
    U_win m c 14 16 (by omega), show ((opss (F := F)).take 16).drop 14 = [hostOps0_14, hostOps0_15] from rfl]
  generalize U m c 14 = u
  after_reads_simp
  rfl

theorem V_v69 (c : Dev nD) : (V m c main_v69 : IVec S31 32) = select (V m c main_v22 : IVec S31 1) (V m c main_v68 : IVec S31 32) (broadcastInDim S31 ![] bcast_S_S31 (constantI S_ 32 0#32)) := by
  rw [V_at m c 18 main_v69 (by decide), V_at m c 18 main_v22 (by decide), V_at m c 18 main_v68 (by decide),
    U_win m c 16 18 (by omega), show ((opss (F := F)).take 18).drop 16 = [hostOps0_16, hostOps0_17] from rfl]
  generalize U m c 16 = u
  after_reads_simp
  rfl

theorem V_v75 (c : Dev nD) : (V m c main_v75 : IVec S31 32) = concatenate S31 0 [⟨S1, broadcastInDim S1 ![] bcast_S_S1 (constantI S_ 32 1#32)⟩, ⟨S30, extui 32 (cmpi .ne (extractStridedSlice S30 ![1] (V m c main_v28 : IVec S31 32) slices_S31_S30_1) (extractStridedSlice S30 ![0] (V m c main_v28 : IVec S31 32) slices_S31_S30_0)) natLt_1_32⟩] concatenates_S1_S30_S31_d0 := by
  rw [V_at m c 19 main_v75 (by decide), V_at m c 19 main_v28 (by decide),
    U_win m c 18 19 (by omega), show ((opss (F := F)).take 19).drop 18 = [hostOps0_18] from rfl]
  generalize U m c 18 = u
  after_reads_simp
  rfl

/-- The scales, flat. -/
theorem V_v76 (c : Dev nD) : (V m c main_v76 : FVec F S20480 .f32) = shapeCast S20480 (V m c main_arg3 : FVec F S8x40x64 .f32) shapeCasts_S8x40x64_S20480 := by
  rw [V_at m c 19 main_v76 (by decide), V_at m c 19 main_arg3 (by decide),
    U_win m c 18 19 (by omega), show ((opss (F := F)).take 19).drop 18 = [hostOps0_18] from rfl]
  generalize U m c 18 = u
  after_reads_simp
  rfl

end Cert.KernelIdeal.Hand
-- ==== Proof.KIEqs.lean ====
/-
  The vectors' equations together.
-/
module

public import proofs.«01_k».proof.Proof.KITab
public import proofs.«01_k».proof.Proof.Tab
public import Idealize.ShloMosaic.Lib.StableHlo.ReadAt
public import Idealize.ShloMosaic.Lib.Routing.OpsSearch

@[expose] public section

set_option maxRecDepth 16384
set_option maxHeartbeats 4000000

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

attribute [local irreducible] Host.reduceWindow Host.reduce Host.gather broadcastInDim concatenate extractStridedSlice iotaInDim constantI cmpi select addi subi extui Routing.pyDiv

/-- The vectors' equations together. -/
theorem eqs (c : Dev nD) : Tab.Eqs (V m c main_arg1) (V m c main_v0) (V m c main_v1) (V m c main_v2) (V m c main_v7) (V m c main_v11)
    (V m c main_v12) (V m c main_v27) (V m c main_v22) (V m c main_v20) (V m c main_v28) (V m c main_v35) (V m c main_v43) (V m c main_v50)
    (V m c main_v53) (V m c main_v60) (V m c main_v61) (V m c main_v68) (V m c main_v69) (V m c main_v75) where
  e0 := ⟨reduceWindows_S8_S8_w8s1p7_0, h_S_, bcast_S_S_, V_v0 m c⟩
  e1 := V_v1 m c
  e2 := ⟨bcast_S_S8, V_v2 m c⟩
  e7 := ⟨bcast_S_S8, V_v7 m c⟩
  e11 := ⟨bcast_S_S8, V_v11 m c⟩
  e12 := ⟨reduceWindows_S8_S8_w8s1p7_0, h_S_, bcast_S_S_, V_v12 m c⟩
  e20 := ⟨bcast_S31_S31x1_0, bcast_S31x1_S31x8_0_1, bcast_S8_S1x8_1, bcast_S1x8_S31x8_0_1, natLt_1_32, reducesTo_S31x8_S31_d1, h_S_, V_v20 m c⟩
  e22 := ⟨bcast_S_S31, V_v22 m c⟩
  e27 := ⟨bcast_S_S8, reducesTo_S8_S_d0, h_S_, V_v27 m c⟩
  e28 := ⟨bcast_S_S31, V_v28 m c⟩
  e35 := take_taken _ _ _ (V_v35 m c)
  e43 := take_taken _ _ _ (V_v43 m c)
  e50 := take_taken _ _ _ (V_v50 m c)
  e60 := take_taken _ _ _ (V_v60 m c)
  e68 := take_taken _ _ _ (V_v68 m c)
  e53 := ⟨bcast_S_S31, (V_v53 m c).trans (by rw [V_v13])⟩
  e61 := ⟨bcast_S_S31, V_v61 m c⟩
  e69 := ⟨bcast_S_S31, V_v69 m c⟩
  e75 := ⟨bcast_S_S1, slices_S31_S30_1, slices_S31_S30_0, natLt_1_32, concatenates_S1_S30_S31_d0, V_v75 m c⟩

end Cert.KernelIdeal.Hand
-- ==== Proof.KIFrame.lean ====
/-
  The words of the tables at an item, the side conditions they meet, and the frame.
-/
module

public import proofs.«01_k».proof.Proof.KIEqs
public import Idealize.ShloMosaic.Lib.Affine

@[expose] public section

set_option maxRecDepth 16384
set_option maxHeartbeats 4000000

noncomputable section

namespace Cert.KernelIdeal.Hand

open Cert.KernelIdeal Cert.KernelIdeal.Gen Cert.Sched
open Idealize.ShloMosaic Idealize.ShloMosaic.TcCoe
open Idealize.SL Idealize.SL.Sem
open Idealize.ShloMosaic.Pipeline (RDat)

variable {F : FTy → Type} [FloatOps F]
variable (m : (ℓ : Loc nD τ sig) → Buf (Elt F) ℓ)

attribute [local irreducible] V

/-- The activations' block index, from the table's words. -/
theorem tr1_eq (T : pre0.Contents (Elt F)) (i : grid0.Coords) : cc0_transform_1 k0_off1_inb numel1_S1 T i = ![(tw T 0 i).toNat, 0] :=
  congrArg (fun x => ![(T 0 x).toNat, 0]) (off1_idx i)
/-- The weights' block index, from the table's words. -/
theorem tr2_eq (T : pre0.Contents (Elt F)) (i : grid0.Coords) : cc0_transform_2 k0_off1_inb numel1_S1 T i = ![(tw T 1 i).toNat, 0, (i 0).val] := by
  have h0 : (BitVec.ofNat 32 (i 0).val).toNat = (i 0).val := by
    have : (i 0).val < 8 := (i 0).isLt
    rw [BitVec.toNat_ofNat]; omega
  exact (congrArg (fun x => ![(T 1 x).toNat, 0, (BitVec.ofNat 32 (i 0).val).toNat]) (off1_idx i)).trans (by rw [h0]; rfl)
/-- The output's block index, from the table's words. -/
theorem tr3_eq (T : pre0.Contents (Elt F)) (i : grid0.Coords) : cc0_transform_3 k0_off1_inb numel1_S1 T i = ![(tw T 0 i).toNat, (i 0).val] := by
  have h0 : (BitVec.ofNat 32 (i 0).val).toNat = (i 0).val := by
    have : (i 0).val < 8 := (i 0).isLt
    rw [BitVec.toNat_ofNat]; omega
  exact (congrArg (fun x => ![(T 0 x).toNat, (BitVec.ofNat 32 (i 0).val).toNat]) (off1_idx i)).trans (by rw [h0]; rfl)

/-- The group sizes. -/
def gs : Nat → Nat := Tab.G (V m 0 main_arg1 : IVec S8 32)

section Fill
variable (hg : cs (gs m) 8 = 12288)
include hg

/-- The table's word for an item's tile. -/
theorem tw_tile (i : grid0.Coords) : tw (T m) 0 i = BitVec.ofNat 32 (tile (gs m) (i 1).val) := Tab.w53 (eqs m 0) hg (i 1)
/-- The table's word for the expert of an item in use. -/
theorem tw_eid (i : grid0.Coords) (h : cnt (gs m) (i 1).val < 8) : tw (T m) 1 i = BitVec.ofNat 32 (cnt (gs m) (i 1).val) :=
  (Tab.w28 (eqs m 0) hg (i 1)).trans (if_pos h)
/-- The table's expert is one of the eight. -/
theorem tw_eid_lt (i : grid0.Coords) : (tw (T m) 1 i).toNat < 8 := Tab.w28_lt (eqs m 0) hg (i 1)
/-- The table's word for the first row of an item's group. -/
theorem tw_lo (i : grid0.Coords) : tw (T m) 2 i = BitVec.ofNat 32 (if cnt (gs m) (i 1).val < 8 then cs (gs m) (cnt (gs m) (i 1).val) else 0) :=
  Tab.w61 (eqs m 0) hg (i 1)
/-- The table's word for the row after an item's group. -/
theorem tw_hi (i : grid0.Coords) : tw (T m) 3 i = BitVec.ofNat 32 (if cnt (gs m) (i 1).val < 8 then cs (gs m) (cnt (gs m) (i 1).val + 1) else 0) :=
  Tab.w69 (eqs m 0) hg (i 1)
/-- An item not marked fresh has the expert of the item before it. -/
theorem tw_fresh (i : grid0.Coords) (h : tw (T m) 4 i ≠ 1#32) : ∃ j : Fin 31, j.val + 1 = (i 1).val ∧ T m 1 (ValueIdx.ix1 j) = tw (T m) 1 i :=
  Tab.w75 (eqs m 0) hg (i 1) h

/-- An item's tile as a number. -/
theorem tw_tile_nat (i : grid0.Coords) : (tw (T m) 0 i).toNat = tile (gs m) (i 1).val := by
  have := tile_lt (gs m) hg (i 1).val
  rw [tw_tile m hg, BitVec.toNat_ofNat]; omega

end Fill

/-- The block indices are in range. -/
theorem ok_of (hg : cs (gs m) 8 = 12288) : ok0 (T m) := by
  have h0 : ∀ i : grid0.Coords, (i 0).val < 8 := fun i => (i 0).isLt
  refine ⟨fun i => ⟨?_, .inr ?_⟩, fun i => ⟨?_, .inr ?_⟩, fun i => ⟨?_, .inr ?_⟩⟩
  · rw [tr1_eq (T m), tw_tile_nat m hg]
    have := tile_lt (gs m) hg (i 1).val
    intro a
    match a with
    | ⟨0, _⟩ => exact (show (tile (gs m) (i 1).val + 1) * 512 ≤ 12288 by omega)
    | ⟨1, _⟩ => exact (show (0 + 1) * 5120 ≤ 5120 by omega)
  · exact Affine.block_words_dvd (by decide) (by decide)
  · rw [tr2_eq (T m)]
    have := tw_eid_lt m hg i
    have := h0 i
    intro a
    match a with
    | ⟨0, _⟩ => exact (show ((tw (T m) 1 i).toNat + 1) * 1 ≤ 8 by omega)
    | ⟨1, _⟩ => exact (show (0 + 1) * 5120 ≤ 5120 by omega)
    | ⟨2, _⟩ => exact (show ((i 0).val + 1) * 1024 ≤ 8192 by omega)
  · exact Affine.block_words_dvd (by decide) (by decide)
  · rw [tr3_eq (T m), tw_tile_nat m hg]
    have := tile_lt (gs m) hg (i 1).val
    have := h0 i
    intro a
    match a with
    | ⟨0, _⟩ => exact (show (tile (gs m) (i 1).val + 1) * 512 ≤ 12288 by omega)
    | ⟨1, _⟩ => exact (show ((i 0).val + 1) * 1024 ≤ 8192 by omega)
  · exact Affine.block_words_dvd (by decide) (by decide)

/-- The reads of the scales are in range. -/
theorem chk_of (hg : cs (gs m) 8 = 12288) : Chk (T m) := by
  intro i k _ r a
  have he := tw_eid_lt m hg i
  have h0 : (i 0).val < 8 := (i 0).isLt
  have hk : k.val < 40 := k.isLt
  have hr := r.isLt
  obtain rfl : a = 0 := Subsingleton.elim _ _
  rw [off2_val i _ he k r]
  exact (show ((tw (T m) 1 i).toNat * 40 + k.val) * 64 + (i 0).val * 8 + r.val + 1 ≤ 20480 by omega)

/-- Every run ends with the arguments as they were and the semaphores at zero. -/
theorem fr (ρ : Dev nD → PrngReg) (hg : cs (gs m) 8 = 12288) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run (defs (F := F)) _ _).mono (fun r h => ⟨args_of m (ok_of m hg) _ _ r h.1, h.2⟩)
    (run m ρ (ok_of m hg) (chk_of m hg) (fun _ _ => True) (fun _ => trivial) (fun _ _ => True) (fun _ _ _ _ _ _ _ _ _ => ⟨trivial, trivial⟩))

end Cert.KernelIdeal.Hand
-- ==== Proof.PreG.lean ====
/-
  The precondition says the group sizes sum to the number of rows.
-/
module

public import proofs.«01_k».proof.Defs
public import proofs.«01_k».proof.Proof.KFrame
public import proofs.«01_k».proof.Proof.KIFrame
public import proofs.«01_k».proof.Proof.Gen.Pre_groups_fill
public import proofs.«01_k».proof.Proof.Gen.ReferenceIdeal.Frame

@[expose] public section

noncomputable section

namespace Cert.Proof

open Idealize.ShloMosaic Idealize.SL.Sem

/-- The precondition of the kernel: its group sizes sum to the number of rows. -/
theorem fillK (m : (ℓ : Loc Cert.Kernel.nD Cert.Kernel.τ Cert.Kernel.sig) → Buf (Elt Bits) ℓ) (h : Pre_Kernel m) :
    Sched.cs (Kernel.Hand.gs m) 8 = 12288 := by
  unfold Kernel.Hand.gs
  rw [Kernel.Hand.V_main_arg1]
  exact Tab.fill_of _ _ _ _ (h 0)

/-- The precondition of the ideal kernel: its group sizes sum to the number of rows. -/
theorem fillKI (m : (ℓ : Loc Cert.KernelIdeal.nD Cert.KernelIdeal.τ Cert.KernelIdeal.sig) → Buf (Elt Ideal) ℓ) (h : Pre_KernelIdeal m) :
    Sched.cs (KernelIdeal.Hand.gs m) 8 = 12288 := by
  unfold KernelIdeal.Hand.gs
  rw [KernelIdeal.Hand.V_main_arg1]
  exact Tab.fill_of _ _ _ _ (h 0)

/-- The frame of the kernel. -/
theorem frameK : quiescent_Kernel := fun m g h => Kernel.Hand.fr m g (fillK m h)

/-- The frame of the ideal kernel. -/
theorem frameKI : quiescent_KernelIdeal := fun m g h => KernelIdeal.Hand.fr m g (fillKI m h)

/-- The frame of the ideal reference. -/
theorem frameRI : quiescent_ReferenceIdeal := fun m g _ => ReferenceIdeal.Gen.frame m g

end Cert.Proof
-- ==== Proof.Win.lean ====
/-
  The call's windows in numbers: a point's coordinates, the blocks of the inputs read at an index, and when the
  output's block is written back.
-/
module

public import proofs.«01_k».proof.Proof.KIFrame
public import Idealize.ShloMosaic.Lib.Pipeline.Value
public import Idealize.ShloMosaic.Lib.Pipeline.ArrRel
public import Idealize.ShloMosaic.Lib.Pipeline.ValueKit.Geometry

@[expose] public section

set_option maxRecDepth 16384
set_option maxHeartbeats 400000

noncomputable section

namespace Cert.KernelIdeal.Hand

open Cert.KernelIdeal Cert.KernelIdeal.Gen Cert.Sched
open Idealize.ShloMosaic Idealize.ShloMosaic.TcCoe
open Idealize.SL Idealize.SL.Sem
open Idealize.ShloMosaic.Pipeline (RDat Dat Window)

variable {F : FTy → Type} [FloatOps F]

/-- A point's column tile. -/
theorem co0 (t : Fin grid0.N) : (grid0.coords t 0).val = t.val / 31 % 8 :=
  Pipeline.Grid.coords_val t 0 (by decide) rfl
/-- A point's work item. -/
theorem co1 (t : Fin grid0.N) : (grid0.coords t 1).val = t.val % 31 := by
  have h := Pipeline.Grid.coords_val (G := grid0) t 1 (S := 1) (B := 31) (by decide) rfl
  rw [Nat.div_one] at h; exact h

/-- The grid has 248 points. -/
theorem N_eq : grid0.N = 248 := by decide

section Gen
variable (V : (c : Dev nD) → (b : Ref sig .tc) → Buf (Elt F) ((c : Thread nD τ).loc b))
variable (T : pre0.Contents (Elt F)) (hok : ok0 T)

/-- The activations' block index at a point. -/
theorem index1 (t : Fin grid0.N) : ((cfgT T hok).win 1).index t = cc0_transform_1 k0_off1_inb numel1_S1 T (grid0.coords t) := rfl
/-- The weights' block index at a point. -/
theorem index2 (t : Fin grid0.N) : ((cfgT T hok).win 2).index t = cc0_transform_2 k0_off1_inb numel1_S1 T (grid0.coords t) := rfl
/-- The output's block index at a point. -/
theorem index3 (t : Fin grid0.N) : ((cfgT T hok).win 3).index t = cc0_transform_3 k0_off1_inb numel1_S1 T (grid0.coords t) := rfl

/-- The scales as the body reads them: the whole array. -/
theorem iblk0_apply (c : Dev nD) (t : Fin (cfgT T hok).N) (y : S20480.Idx) :
    iblk V T hok c 0 t y = V c main_v76 y := by
  blk_simp [iblk]
  refine congrArg (V c main_v76) ?_
  funext a
  apply Fin.ext
  match a with
  | ⟨0, h⟩ =>
    blk_simp
    exact (show 0 * 20480 + (y 0).val = (y 0).val by omega)

/-- The activations' block: rows of the item's tile. -/
theorem iblk1_apply (c : Dev nD) (t : Fin (cfgT T hok).N) (y : S512x5120.Idx) (R : Fin 12288)
    (hR : R.val = (tw T 0 (grid0.coords t)).toNat * 512 + (y 0).val) :
    iblk V T hok c 1 t y = V c main_arg0 (ValueIdx.ix2 R (y 1)) := by
  blk_simp [iblk]
  refine congrArg (V c main_arg0) ?_
  funext a
  apply Fin.ext
  match a with
  | ⟨0, h⟩ =>
    blk_simp
    rw [index1, tr1_eq]
    exact (show (tw T 0 (grid0.coords t)).toNat * 512 + (y 0).val = R.val from hR.symm)
  | ⟨1, h⟩ =>
    blk_simp
    rw [index1, tr1_eq]
    exact (show 0 * 5120 + (y 1).val = (y 1).val by omega)

/-- The weights' block: the item's expert and the column tile. -/
theorem iblk2_apply (c : Dev nD) (t : Fin (cfgT T hok).N) (y : S1x5120x1024.Idx) (e : Fin 8) (C : Fin 8192)
    (he : e.val = (tw T 1 (grid0.coords t)).toNat) (hC : C.val = (grid0.coords t 0).val * 1024 + (y 2).val) :
    iblk V T hok c 2 t y = V c main_arg2 (ValueIdx.ix3 e (y 1) C) := by
  blk_simp [iblk]
  refine congrArg (V c main_arg2) ?_
  funext a
  apply Fin.ext
  match a with
  | ⟨0, h⟩ =>
    blk_simp
    rw [index2, tr2_eq]
    exact he.symm
  | ⟨1, h⟩ =>
    blk_simp
    rw [index2, tr2_eq]
    exact (show 0 * 5120 + (y 1).val = (y 1).val by omega)
  | ⟨2, h⟩ =>
    blk_simp
    rw [index2, tr2_eq]
    exact (show (grid0.coords t 0).val * 1024 + (y 2).val = C.val from hC.symm)

/-- The output's block is kept from a point to the next one with the same block. -/
theorem keep3 (t : Fin (cfgT T hok).N) (u : Fin (cfgT T hok).N) (hu : u.val + 1 = t.val)
    (h0 : (tw T 0 (grid0.coords u)).toNat = (tw T 0 (grid0.coords t)).toNat) (h1 : (grid0.coords u 0).val = (grid0.coords t 0).val) :
    ((cfgT T hok).win 3).flush u = false := by
  have hN : t.val < grid0.N := t.isLt
  rw [Bool.eq_false_iff]
  intro hf
  rw [Window.flush_eq_flushOf] at hf
  unfold Window.flushOf at hf
  rw [Bool.and_eq_true, Bool.or_eq_true, decide_eq_true_eq, decide_eq_true_eq] at hf
  rcases hf.2 with h | ⟨h, hne⟩
  · have : u.val + 1 = grid0.N := h
    omega
  · apply hne
    have e : (⟨u.val + 1, h⟩ : Fin (cfgT T hok).N) = t := Fin.ext hu
    rw [e]
    show cc0_transform_3 k0_off1_inb numel1_S1 T (grid0.coords t) = cc0_transform_3 k0_off1_inb numel1_S1 T (grid0.coords u)
    rw [tr3_eq, tr3_eq, h0, h1]

/-- At a point where it is written back, the next point has another block. -/
theorem flush3 (t : Fin (cfgT T hok).N) (u : Fin (cfgT T hok).N) (hu : u.val + 1 = t.val) (hf : ((cfgT T hok).win 3).flush u = true)
    (h1 : (grid0.coords u 0).val = (grid0.coords t 0).val) :
    (tw T 0 (grid0.coords u)).toNat ≠ (tw T 0 (grid0.coords t)).toNat := by
  intro h0
  rw [keep3 T hok t u hu h0 h1] at hf
  exact Bool.false_ne_true hf

/-- Where the next point has another block, or there is none, it is written back. -/
theorem flush3_of (u : Fin (cfgT T hok).N)
    (h : u.val + 1 = 248 ∨ ∃ t : Fin grid0.N, u.val + 1 = t.val ∧
      ((tw T 0 (grid0.coords u)).toNat ≠ (tw T 0 (grid0.coords t)).toNat ∨ (grid0.coords u 0).val ≠ (grid0.coords t 0).val)) :
    ((cfgT T hok).win 3).flush u = true := by
  rw [Window.flush_eq_flushOf]
  unfold Window.flushOf
  rw [Bool.and_eq_true, Bool.or_eq_true, decide_eq_true_eq, decide_eq_true_eq]
  refine ⟨rfl, ?_⟩
  rcases h with h | ⟨t, hu, h⟩
  · exact .inl (h.trans N_eq.symm)
  · right
    have hN : t.val < grid0.N := t.isLt
    have hlt : u.val + 1 < (cfgT T hok).N := hu ▸ hN
    refine ⟨hlt, ?_⟩
    have e : (⟨u.val + 1, hlt⟩ : Fin (cfgT T hok).N) = t := Fin.ext hu
    rw [e]
    show cc0_transform_3 k0_off1_inb numel1_S1 T (grid0.coords t) ≠ cc0_transform_3 k0_off1_inb numel1_S1 T (grid0.coords u)
    rw [tr3_eq, tr3_eq]
    intro hc
    rcases h with h | h
    · exact h (congrFun hc 0).symm
    · exact h (congrFun hc 1).symm

end Gen

end Cert.KernelIdeal.Hand
-- ==== Proof.Pays.lean ====
/-
  The body's conditions in numbers, and its two stored payloads over the extended reals read at an index.
-/
module

public import proofs.«01_k».proof.Proof.KIBody
public import Idealize.ShloMosaic.Lib.MatmulPlain
public import Idealize.ShloMosaic.Lib.WordCmp
public import Idealize.ShloMosaic.Lib.Pipeline.Value

@[expose] public section

set_option maxRecDepth 16384
set_option maxHeartbeats 400000

noncomputable section

namespace Cert.KernelIdeal.Hand

open Cert.KernelIdeal Cert.KernelIdeal.Gen
open Idealize.ShloMosaic Idealize.ShloMosaic.WordCmp
open scoped BigOperators

/-- A bit widened and tested against zero is the bit. -/
theorem ne_zero_one (b : Bool) : IntOp.cmpi .ne ((BitVec.ofBool b).setWidth 32) 0#32 = BitVec.ofBool b := by cases b <;> decide

section Conds
variable {a b w : Nat}

/-- The second branch is taken when the item has rows. -/
theorem cond2_iff (ha : a < 2 ^ 31) (hb : b < 2 ^ 31) : k0_cond2 (BitVec.ofNat 32 a) (BitVec.ofNat 32 b) = 1#1 ↔ a < b := by
  unfold k0_cond2
  dsimp only [Scalar.cmpi, Scalar.extui]
  rw [cmpi_sgt_ofNat (w := 32) hb ha, ne_zero_one, ofBool_decide_eq_one_iff]

/-- The first branch is taken when the item has rows and is marked fresh. -/
theorem cond1_iff (v8 : BitVec 32) (ha : a < 2 ^ 31) (hb : b < 2 ^ 31) :
    k0_cond1 (BitVec.ofNat 32 a) (BitVec.ofNat 32 b) v8 = 1#1 ↔ a < b ∧ v8 = 1#32 := by
  unfold k0_cond1
  dsimp only [Scalar.cmpi, Scalar.extui, Scalar.andi]
  rw [cmpi_sgt_ofNat (w := 32) hb ha, cmpi_eq_eq, andi_ofBool, ne_zero_one, ofBool_eq_one_iff, Bool.and_eq_true, decide_eq_true_eq, decide_eq_true_eq]

/-- A word times 512. -/
theorem mul_512 (w : Nat) : IntOp.muli (BitVec.ofNat 32 w) 512#32 = BitVec.ofNat 32 (w * 512) := by
  apply BitVec.eq_of_toNat_eq
  simp [IntOp.muli, BitVec.toNat_mul]
/-- The sum of two words of numbers. -/
theorem add_nat (x y : Nat) : IntOp.addi (BitVec.ofNat 32 x) (BitVec.ofNat 32 y) = BitVec.ofNat 32 (x + y) := by
  apply BitVec.eq_of_toNat_eq
  simp [IntOp.addi, BitVec.toNat_add]

/-- The third branch is taken when the item's rows are the whole tile. -/
theorem cond3_iff (ha : a < 2 ^ 31) (hb : b < 2 ^ 31) (hw : w < 2 ^ 20) :
    k0_cond3 (BitVec.ofNat 32 a) (BitVec.ofNat 32 b) (BitVec.ofNat 32 w) = 1#1 ↔ a ≤ w * 512 ∧ w * 512 + 512 ≤ b := by
  unfold k0_cond3
  dsimp only [Scalar.cmpi, Scalar.extui, Scalar.andi, Scalar.muli, Scalar.addi]
  rw [mul_512, add_nat, cmpi_sle_ofNat (w := 32) ha (by omega), cmpi_sge_ofNat (w := 32) hb (by omega), andi_ofBool, ne_zero_one, ofBool_eq_one_iff,
    Bool.and_eq_true, decide_eq_true_eq, decide_eq_true_eq]

end Conds

/-- The full block: the product. -/
theorem pay1_apply (x : Vec Ideal S512x5120 .bf16) (s : Vec Ideal S5120x1024 .bf16) (r : Fin 512) (c : Fin 1024) :
    k0_pay1 (F := Ideal) x s (ValueIdx.ix2 r c) = ∑ k : Fin 5120, (x (ValueIdx.ix2 r k) : EReal) * s (ValueIdx.ix2 k c) := by
  unfold k0_pay1
  refine (Ideal.matmul_plain_apply (φ₁ := .bf16) (φ₂ := .bf16) (M := 512) (K := 5120) (N := 1024) none x s _ r c).trans ?_
  refine (congrArg (· + _) (Ideal.ofBits_zero_f32)).trans (zero_add _)

/-- The partial block: the product at the rows of the item, what was there at the others. -/
theorem pay2_apply (x : Vec Ideal S512x5120 .bf16) (s : Vec Ideal S5120x1024 .bf16) (o : Vec Ideal S512x1024 .bf16) (r : Fin 512) (c : Fin 1024)
    {a b w : Nat} (ha : a < 2 ^ 31) (hb : b < 2 ^ 31) (hw : w < 2 ^ 20) :
    k0_pay2 (F := Ideal) (BitVec.ofNat 32 a) (BitVec.ofNat 32 b) x s (BitVec.ofNat 32 w) o (ValueIdx.ix2 r c)
      = if a ≤ w * 512 + r.val ∧ w * 512 + r.val < b then k0_pay1 (F := Ideal) x s (ValueIdx.ix2 r c) else o (ValueIdx.ix2 r c) := by
  have hr := r.isLt
  have hi : iota .tc S512x1024 32 [0] iota_S512x1024_d0_w32 (ValueIdx.ix2 r c) = BitVec.ofNat 32 r.val := by
    rw [iota_at]
    refine congrArg (BitVec.ofNat 32) ?_
    rw [List.foldl_cons, List.foldl_nil]
    exact (show 0 * 512 + r.val = r.val by omega)
  unfold k0_pay2
  generalize k0_pay1 (F := Ideal) x s = p
  rw [shapeCast_id]
  dsimp only [Scalar.muli]
  rw [mul_512]
  show (if IntOp.andi (IntOp.cmpi .sge (IntOp.addi (BitVec.ofNat 32 (w * 512)) (iota .tc S512x1024 32 [0] iota_S512x1024_d0_w32 (ValueIdx.ix2 r c))) (BitVec.ofNat 32 a))
      (IntOp.cmpi .slt (IntOp.addi (BitVec.ofNat 32 (w * 512)) (iota .tc S512x1024 32 [0] iota_S512x1024_d0_w32 (ValueIdx.ix2 r c))) (BitVec.ofNat 32 b)) = 1
      then p (ValueIdx.ix2 r c) else o (ValueIdx.ix2 r c)) = _
  rw [hi, add_nat,
    cmpi_sge_ofNat (w := 32) (by omega) ha, cmpi_slt_ofNat (w := 32) (by omega) hb, andi_ofBool]
  refine if_congr ?_ rfl rfl
  rw [show ((1 : BitVec 1)) = 1#1 from rfl, ofBool_eq_one_iff, Bool.and_eq_true, decide_eq_true_eq, decide_eq_true_eq]

end Cert.KernelIdeal.Hand
-- ==== Proof.Spec.lean ====
/-
  The number the claim is about: a row of the activations times an expert's dequantised weights.
-/
module

public import Idealize.ShloMosaic.Lib.Pipeline.Value
public import Idealize.ShloMosaic.Lib.ValueIdxCore
public import Idealize.ShloMosaic.PureOps.Ideal

@[expose] public section

noncomputable section

namespace Cert.Spec

open Idealize.ShloMosaic
open scoped BigOperators

/-- A weight times the scale of its 128 × 128 block. -/
def wt (W : (⟨3, ![8, 5120, 8192]⟩ : Shape).Idx → EReal) (S : (⟨3, ![8, 40, 64]⟩ : Shape).Idx → EReal) (e : Fin 8) (k : Fin 5120) (C : Fin 8192) : EReal :=
  W (ValueIdx.ix3 e k C) * S (ValueIdx.ix3 e (⟨k.val / 128, by have := k.isLt; omega⟩ : Fin 40) (⟨C.val / 128, by have := C.isLt; omega⟩ : Fin 64))

/-- Row `R` of the activations times column `C` of expert `e`'s weights. -/
def prod (X : (⟨2, ![12288, 5120]⟩ : Shape).Idx → EReal) (W : (⟨3, ![8, 5120, 8192]⟩ : Shape).Idx → EReal) (S : (⟨3, ![8, 40, 64]⟩ : Shape).Idx → EReal)
    (e : Fin 8) (R : Fin 12288) (C : Fin 8192) : EReal :=
  ∑ k : Fin 5120, X (ValueIdx.ix2 R k) * wt W S e k C

end Cert.Spec
-- ==== Proof.Value.lean ====
/-
  The call's invariant over the extended reals: after each point the scratch holds the item's dequantised weights, and
  the output block holds the product at every row that the items so far have filled.
-/
module

public import proofs.«01_k».proof.Proof.Win
public import proofs.«01_k».proof.Proof.Pays
public import proofs.«01_k».proof.Proof.Spec

@[expose] public section

set_option maxRecDepth 16384
set_option maxHeartbeats 400000

noncomputable section

namespace Cert.KernelIdeal.Hand

open Cert.KernelIdeal Cert.KernelIdeal.Gen Cert.Sched
open Idealize.ShloMosaic Idealize.ShloMosaic.TcCoe
open Idealize.SL Idealize.SL.Sem
open Idealize.ShloMosaic.Pipeline (RDat Dat Window)
open scoped BigOperators

variable (m : (ℓ : Loc nD τ sig) → Buf (Elt Ideal) ℓ)

attribute [local irreducible] V

/-- The activations. -/
def Xa : S12288x5120.Idx → EReal := (V m 0 main_arg0 : FVec Ideal S12288x5120 .bf16)
/-- The weights' codes. -/
def Wa : S8x5120x8192.Idx → EReal := (V m 0 main_arg2 : FVec Ideal S8x5120x8192 .fp8e4m3)
/-- The blocks' scales. -/
def Sa : S8x40x64.Idx → EReal := (V m 0 main_arg3 : FVec Ideal S8x40x64 .f32)

/-- The scratch holds column tile `n` of expert `e`'s weights. -/
def Good (n : Nat) (e : Fin 8) (B : S5120x1024.Idx → EReal) : Prop :=
  ∀ (k : Fin 5120) (q : Fin 1024) (C : Fin 8192), C.val = n * 1024 + q.val → B (ValueIdx.ix2 k q) = Spec.wt (Wa m) (Sa m) e k C

/-- The invariant of the scratch: at its contents after a point that has an item. -/
def InvI (k : Nat) (B : S5120x1024.Idx → EReal) : Prop :=
  ∀ (t : Fin grid0.N) (e : Fin 8), t.val + 1 = k → cnt (gs m) (grid0.coords t 1).val = e.val → Good m (grid0.coords t 0).val e B

/-- What the output block holds after a point: the product at every row filled so far. -/
def RlI (t : Fin grid0.N) (O : S512x1024.Idx → EReal) : Prop :=
  ∀ (r : Fin 512) (q : Fin 1024) (e : Fin 8) (R : Fin 12288) (C : Fin 8192), R.val = tile (gs m) (grid0.coords t 1).val * 512 + r.val →
    C.val = (grid0.coords t 0).val * 1024 + q.val → cs (gs m) e.val ≤ R.val → R.val < cs (gs m) (e.val + 1) → R.val < cov (gs m) (grid0.coords t 1).val →
    O (ValueIdx.ix2 r q) = Spec.prod (Xa m) (Wa m) (Sa m) e R C

/-- The flattened scales read at a block. -/
theorem flat_scale (S : S8x40x64.Idx → EReal) (n : Nat) (e : Fin 8) (k : Fin 5120) (q : Fin 1024) (C : Fin 8192) (hC : C.val = n * 1024 + q.val) :
    shapeCast S20480 S shapeCasts_S8x40x64_S20480 (sAt n e.val k.val q.val)
      = S (ValueIdx.ix3 e (⟨k.val / 128, by have := k.isLt; omega⟩ : Fin 40) (⟨C.val / 128, by have := C.isLt; omega⟩ : Fin 64)) := by
  refine shapeCast_apply S shapeCasts_S8x40x64_S20480 _ _ ?_
  rw [Shape.rowMajor_val_one, Shape.rowMajor_val_three]
  have h1 := e.isLt
  have h2 := k.isLt
  have h3 := q.isLt
  have h4 := C.isLt
  exact (show (e.val * 40 + k.val / 128) * 64 + C.val / 128 = ((e.val * 40 + k.val / 128) * 64 + n * 8 + q.val / 128) % 20480 by omega)

/-- The scale read for row `k`, column `q` of the tile. -/
theorem scale_at (n : Nat) (e : Fin 8) (k : Fin 5120) (q : Fin 1024) (C : Fin 8192) (hC : C.val = n * 1024 + q.val) :
    (V m 0 main_v76 : FVec Ideal S20480 .f32) (sAt n e.val k.val q.val)
      = Sa m (ValueIdx.ix3 e (⟨k.val / 128, by have := k.isLt; omega⟩ : Fin 40) (⟨C.val / 128, by have := C.isLt; omega⟩ : Fin 64)) :=
  (congrFun (V_v76 m 0) (sAt n e.val k.val q.val)).trans (flat_scale (Sa m) n e k q C hC)

section Pt
variable (hok : ok0 (T m))

/-- The dequantised tile. -/
theorem dq_good (t : Fin grid0.N) (e : Fin 8) (he : e.val = (tw (T m) 1 (grid0.coords t)).toNat) :
    Good m (grid0.coords t 0).val e (dq (F := Ideal) (grid0.coords t 0).val e.val (iblk (V m) (T m) hok 0 0 t) (iblk (V m) (T m) hok 0 2 t)) := by
  intro k q C hC
  unfold dq Spec.wt
  refine congrArg₂ (fun a b : EReal => a * b) ?_ ?_
  · exact iblk2_apply (V m) (T m) hok 0 t (ValueIdx.ix3 0 k q) e C he hC
  · exact (iblk0_apply (V m) (T m) hok 0 t _).trans (scale_at m _ e k q C hC)

variable (hg : cs (gs m) 8 = 12288)
include hg

/-- The product at a row of the item. -/
theorem pay1_prod (t : Fin grid0.N) (e : Fin 8) (B : S5120x1024.Idx → EReal) (hB : Good m (grid0.coords t 0).val e B)
    (r : Fin 512) (q : Fin 1024) (R : Fin 12288) (C : Fin 8192) (hR : R.val = tile (gs m) (grid0.coords t 1).val * 512 + r.val)
    (hC : C.val = (grid0.coords t 0).val * 1024 + q.val) :
    k0_pay1 (F := Ideal) (iblk (V m) (T m) hok 0 1 t) B (ValueIdx.ix2 r q) = Spec.prod (Xa m) (Wa m) (Sa m) e R C := by
  refine (pay1_apply (iblk (V m) (T m) hok 0 1 t) B r q).trans ?_
  unfold Spec.prod
  refine Finset.sum_congr rfl fun k _ => ?_
  refine congrArg₂ (fun a b : EReal => a * b) ?_ (hB k q C hC)
  exact iblk1_apply (V m) (T m) hok 0 t (ValueIdx.ix2 r k) R (by rw [tw_tile_nat m hg]; exact hR)

/-- The point before, where the item is not a column tile's first. -/
theorem prev (t : Fin grid0.N) (h : 0 < (grid0.coords t 1).val) :
    ∃ u : Fin grid0.N, u.val + 1 = t.val ∧ (grid0.coords u 1).val + 1 = (grid0.coords t 1).val ∧ (grid0.coords u 0).val = (grid0.coords t 0).val := by
  have hN : t.val < grid0.N := t.isLt
  rw [co1] at h
  refine ⟨⟨t.val - 1, by omega⟩, ?_, ?_, ?_⟩
  · show t.val - 1 + 1 = t.val; omega
  · rw [co1, co1]; show (t.val - 1) % 31 + 1 = t.val % 31; omega
  · rw [co0, co0]; show (t.val - 1) / 31 % 8 = t.val / 31 % 8; omega

/-- What the block holds of the rows filled before the point, where the point before has the same block. -/
theorem prior (t : Fin grid0.N) (O : S512x1024.Idx → EReal)
    (hO : (rdatX (V m) (T m) hok (InvI m) (RlI m) 0).Finds 3 t O)
    (hj : 0 < (grid0.coords t 1).val) (ht : tile (gs m) ((grid0.coords t 1).val - 1) = tile (gs m) (grid0.coords t 1).val)
    (r : Fin 512) (q : Fin 1024) (e : Fin 8) (R : Fin 12288) (C : Fin 8192) (hR : R.val = tile (gs m) (grid0.coords t 1).val * 512 + r.val)
    (hC : C.val = (grid0.coords t 0).val * 1024 + q.val) (h1 : cs (gs m) e.val ≤ R.val) (h2 : R.val < cs (gs m) (e.val + 1))
    (h3 : R.val < cov (gs m) ((grid0.coords t 1).val - 1)) :
    O (ValueIdx.ix2 r q) = Spec.prod (Xa m) (Wa m) (Sa m) e R C := by
  obtain ⟨u, hu, hu1, hu0⟩ := prev m hg t hj
  have hj' : (grid0.coords t 1).val - 1 = (grid0.coords u 1).val := by omega
  rw [hj'] at ht h3
  have hfl : ((cfgT (T m) hok).win 3).flush u = false :=
    keep3 (T m) hok t u hu (by rw [tw_tile_nat m hg, tw_tile_nat m hg]; exact ht) hu0
  have hpos : t.val ≠ 0 := by omega
  have hu' : (⟨t.val - 1, Nat.lt_of_le_of_lt (Nat.sub_le _ _) t.isLt⟩ : Fin (cfgT (T m) hok).N) = u := Fin.ext (show t.val - 1 = u.val by omega)
  have hL := ((rdatX (V m) (T m) hok (InvI m) (RlI m) 0).finds_of_pos (w := 3) (t := t) rfl hpos O).mp hO
  rw [hu'] at hL
  rcases hL with hL | hL
  · rw [hfl] at hL; exact absurd hL Bool.false_ne_true
  · have hRl : RlI m u O := Dat.toRRel_leaves (datX (V m) (T m) hok (InvI m) 0) (fgt := fgt (T m) hok) (Rl := RlW (T m) hok (RlI m)) (w := 3) rfl hL
    exact hRl r q e R C (by rw [ht]; exact hR) (by rw [hu0]; exact hC) h1 h2 h3

/-- What the scratch holds after a point that has an item. -/
theorem scratch_step (t : Fin grid0.N) (e : Fin 8) (he : cnt (gs m) (grid0.coords t 1).val = e.val) (B B' : S5120x1024.Idx → EReal) (hB : InvI m t.val B)
    (p1 : tw (T m) 4 (grid0.coords t) = 1#32 → (tw (T m) 1 (grid0.coords t)).toNat < 8 →
      B' = dq (F := Ideal) (grid0.coords t 0).val (tw (T m) 1 (grid0.coords t)).toNat (iblk (V m) (T m) hok 0 0 t) (iblk (V m) (T m) hok 0 2 t))
    (p2 : tw (T m) 4 (grid0.coords t) ≠ 1#32 → B' = B) : Good m (grid0.coords t 0).val e B' := by
  have he8 := e.isLt
  have hw : tw (T m) 1 (grid0.coords t) = BitVec.ofNat 32 e.val := (tw_eid m hg (grid0.coords t) (by omega)).trans (by rw [he])
  have hn : (tw (T m) 1 (grid0.coords t)).toNat = e.val := by rw [hw, BitVec.toNat_ofNat]; omega
  by_cases hf : tw (T m) 4 (grid0.coords t) = 1#32
  · have hd := p1 hf (by omega)
    rw [hn] at hd
    rw [hd]
    exact dq_good m hok t e hn.symm
  · rw [p2 hf]
    obtain ⟨j, hj, hT⟩ := tw_fresh m hg (grid0.coords t) hf
    obtain ⟨u, hu, hu1, hu0⟩ := prev m hg t (by omega)
    have hju : j = grid0.coords u 1 := Fin.ext (by omega)
    have hv : cnt (gs m) (grid0.coords u 1).val < 8 := by
      have := cnt_mono (gs m) (show (grid0.coords u 1).val ≤ (grid0.coords t 1).val by omega)
      omega
    have hwu : tw (T m) 1 (grid0.coords u) = tw (T m) 1 (grid0.coords t) := by rw [← hT, hju]
    rw [tw_eid m hg _ hv, hw] at hwu
    have hc : cnt (gs m) (grid0.coords u 1).val = e.val := by
      have := congrArg BitVec.toNat hwu
      rw [BitVec.toNat_ofNat, BitVec.toNat_ofNat] at this
      omega
    rw [← hu0]
    exact hB u e hu hc

/-- The step of the invariant. -/
theorem stepI : Step (V m) (T m) hok (InvI m) (RlI m) 0 := by
  intro t B B' O O' hB hO hP
  obtain ⟨p1, p2, p3, p4, p5⟩ := hP
  have htl := tile_lt (gs m) hg (grid0.coords t 1).val
  have hcn := cnt_le (gs m) (grid0.coords t 1).val
  rw [tw_lo m hg, tw_hi m hg] at p1 p2 p3 p4 p5
  rw [tw_tile m hg] at p3 p4
  by_cases hv : cnt (gs m) (grid0.coords t 1).val < 8
  · rw [if_pos hv, if_pos hv] at p1 p2 p3 p4 p5
    obtain ⟨a1, a2, a3, a4, a5, a6, a7⟩ := item (gs m) hg hv
    have hgood : Good m (grid0.coords t 0).val ⟨cnt (gs m) (grid0.coords t 1).val, hv⟩ B' := by
      refine scratch_step m hok hg t ⟨_, hv⟩ rfl B B' hB (fun h => ?_) (fun h => ?_)
      · exact p1 ((cond1_iff _ (by omega) (by omega)).2 ⟨a5, h⟩)
      · exact p2 (fun hc => h ((cond1_iff _ (by omega) (by omega)).1 hc).2)
    have hc2 := (cond2_iff (a := cs (gs m) (cnt (gs m) (grid0.coords t 1).val)) (b := cs (gs m) (cnt (gs m) (grid0.coords t 1).val + 1)) (by omega) (by omega)).2 a5
    refine ⟨?_, ?_⟩
    · intro t' e h he
      obtain rfl : t' = t := Fin.ext (by omega)
      have : (⟨cnt (gs m) (grid0.coords t' 1).val, hv⟩ : Fin 8) = e := Fin.ext he
      rw [← this]
      exact hgood
    · intro r q e R C hR hC h1 h2 h3
      have hcov : cov (gs m) (grid0.coords t 1).val = cs (gs m) (cnt (gs m) (grid0.coords t 1).val + 1) := if_pos hv
      rw [hcov] at h3
      have hin : cs (gs m) (cnt (gs m) (grid0.coords t 1).val) ≤ R.val →
          k0_pay1 (F := Ideal) (iblk (V m) (T m) hok 0 1 t) B' (ValueIdx.ix2 r q) = Spec.prod (Xa m) (Wa m) (Sa m) e R C := by
        intro hle
        have hu : (⟨cnt (gs m) (grid0.coords t 1).val, hv⟩ : Fin 8) = e := Fin.ext (expert_unique (gs m) hg hle h3 h1 h2)
        rw [← hu]
        exact pay1_prod m hok hg t _ B' hgood r q R C hR hC
      by_cases h3' : k0_cond3 (BitVec.ofNat 32 (cs (gs m) (cnt (gs m) (grid0.coords t 1).val)))
          (BitVec.ofNat 32 (cs (gs m) (cnt (gs m) (grid0.coords t 1).val + 1))) (BitVec.ofNat 32 (tile (gs m) (grid0.coords t 1).val)) = 1#1
      · rw [p3 hc2 h3']
        have := ((cond3_iff (by omega) (by omega) (by omega)).1 h3').1
        exact hin (by omega)
      · rw [p4 hc2 h3']
        refine (pay2_apply _ _ _ r q (by omega) (by omega) (by omega)).trans ?_
        rw [← hR]
        by_cases hle : cs (gs m) (cnt (gs m) (grid0.coords t 1).val) ≤ R.val
        · rw [if_pos ⟨hle, h3⟩]
          exact hin hle
        · rw [if_neg (fun h => hle h.1)]
          obtain ⟨b1, b2, b3, b4⟩ := above (gs m) hg (j := (grid0.coords t 1).val) (fun h => hle (by omega))
          exact prior m hok hg t O hO b1 b2 r q e R C hR hC h1 h2 (by have := b3 hv; omega)
  · rw [if_neg hv, if_neg hv] at p5
    have hO' := p5 (fun h => absurd ((cond2_iff (a := 0) (b := 0) (by omega) (by omega)).1 h) (by omega))
    refine ⟨?_, ?_⟩
    · intro t' e h he
      obtain rfl : t' = t := Fin.ext (by omega)
      have := e.isLt
      omega
    · intro r q e R C hR hC h1 h2 h3
      rw [hO']
      obtain ⟨b1, b2, b3, b4⟩ := above (gs m) hg (j := (grid0.coords t 1).val) (fun h => hv h.1)
      exact prior m hok hg t O hO b1 b2 r q e R C hR hC h1 h2 (by have := b4 hv; have := R.isLt; omega)

end Pt
end Cert.KernelIdeal.Hand
-- ==== Proof.Final.lean ====
/-
  What the call leaves in its output, over the extended reals: every element is the product of its row's expert.
-/
module

public import proofs.«01_k».proof.Proof.Value

@[expose] public section

set_option maxRecDepth 16384
set_option maxHeartbeats 400000

noncomputable section

namespace Cert.KernelIdeal.Hand

open Cert.KernelIdeal Cert.KernelIdeal.Gen Cert.Sched
open Idealize.ShloMosaic Idealize.ShloMosaic.TcCoe
open Idealize.SL Idealize.SL.Sem
open Idealize.ShloMosaic.Pipeline (RDat Dat Window)
open scoped BigOperators

variable (m : (ℓ : Loc nD τ sig) → Buf (Elt Ideal) ℓ)

attribute [local irreducible] V

/-- An element of the output, at its row and column. -/
def Elem (i : S12288x8192.Idx) (v : EReal) : Prop :=
  ∀ (e : Fin 8) (R : Fin 12288) (C : Fin 8192), R.val = (i 0).val → C.val = (i 1).val → cs (gs m) e.val ≤ R.val → R.val < cs (gs m) (e.val + 1) →
    v = Spec.prod (Xa m) (Wa m) (Sa m) e R C

section Pt
variable (hok : ok0 (T m)) (hg : cs (gs m) 8 = 12288)
include hg

/-- The point after, where the item is not a column tile's last. -/
theorem next (t : Fin grid0.N) (h : (grid0.coords t 1).val < 30) :
    ∃ u : Fin grid0.N, t.val + 1 = u.val ∧ (grid0.coords u 1).val = (grid0.coords t 1).val + 1 ∧ (grid0.coords t 0).val = (grid0.coords u 0).val := by
  have hN : t.val < grid0.N := t.isLt
  have hN' : grid0.N = 248 := N_eq
  rw [co1] at h
  refine ⟨⟨t.val + 1, by omega⟩, rfl, ?_, ?_⟩
  · rw [co1, co1]; show (t.val + 1) % 31 = t.val % 31 + 1; omega
  · rw [co0, co0]; show t.val / 31 % 8 = (t.val + 1) / 31 % 8; omega

/-- What is written back at a point: the product, at every row of the block. -/
theorem flushed_elem (t : Fin (cfgT (T m) hok).N) (hf : ((cfgT (T m) hok).win 3).flush t = true) (O : S512x1024.Idx → EReal) (hO : RlI m t O)
    (r : Fin 512) (q : Fin 1024) (i : S12288x8192.Idx) (h0 : (i 0).val = tile (gs m) (grid0.coords t 1).val * 512 + r.val)
    (h1 : (i 1).val = (grid0.coords t 0).val * 1024 + q.val) : Elem m i (O (ValueIdx.ix2 r q)) := by
  intro e R C hR hC a1 a2
  refine hO r q e R C (hR.trans h0) (hC.trans h1) a1 a2 ?_
  have hi : (grid0.coords t 1).val < 31 := (grid0.coords t 1).isLt
  have hful := full (gs m) hg (j := (grid0.coords t 1).val) hi (fun hc => by
    obtain ⟨u, hu, hu1, hu0⟩ := next m hg t hc.1
    refine flush3 (T m) hok u t hu hf hu0 ?_
    rw [tw_tile_nat m hg, tw_tile_nat m hg, hu1]
    exact hc.2.symm)
  have := r.isLt
  omega

/-- The last item with a tile. -/
theorem last_of (a : Nat) (k : Nat) : ∀ j : Nat, j + k = 30 → tile (gs m) j = a →
    ∃ j' : Nat, j' < 31 ∧ tile (gs m) j' = a ∧ (j' = 30 ∨ tile (gs m) (j' + 1) ≠ tile (gs m) j') := by
  induction k with
  | zero => intro j hj ht; exact ⟨j, by omega, ht, .inl (by omega)⟩
  | succ k ih =>
    intro j hj ht
    by_cases h : tile (gs m) (j + 1) = tile (gs m) j
    · exact ih (j + 1) (by omega) (h.trans ht)
    · exact ⟨j, by omega, ht, .inr h⟩

/-- Every element lies in a block that is written back. -/
theorem cover3 (i : S12288x8192.Idx) : ∃ t : Fin grid0.N, ((cfgT (T m) hok).win 3).flush t = true
    ∧ tile (gs m) (grid0.coords t 1).val = (i 0).val / 512 ∧ (grid0.coords t 0).val = (i 1).val / 1024 := by
  have hi0 : (i 0).val < 12288 := (i 0).isLt
  have hi1 : (i 1).val < 8192 := (i 1).isLt
  have hN' : grid0.N = 248 := N_eq
  obtain ⟨j0, hj0, ht0⟩ := tile_of (gs m) hg (t := (i 0).val / 512) (by omega)
  obtain ⟨j, hj, ht, hl⟩ := last_of m hg ((i 0).val / 512) (30 - j0) j0 (by omega) ht0
  have hv : ∀ h, (⟨(i 1).val / 1024 * 31 + j, h⟩ : Fin grid0.N).val = (i 1).val / 1024 * 31 + j := fun _ => rfl
  have hlt : (i 1).val / 1024 * 31 + j < grid0.N := by omega
  have e1 : (grid0.coords ⟨(i 1).val / 1024 * 31 + j, hlt⟩ 1).val = j := by rw [co1, hv]; omega
  have e0 : (grid0.coords ⟨(i 1).val / 1024 * 31 + j, hlt⟩ 0).val = (i 1).val / 1024 := by rw [co0, hv]; omega
  refine ⟨⟨_, hlt⟩, flush3_of (T m) hok _ ?_, by rw [e1]; exact ht, e0⟩
  by_cases h248 : (i 1).val / 1024 * 31 + j + 1 = 248
  · exact .inl h248
  · have hlt' : (i 1).val / 1024 * 31 + j + 1 < grid0.N := by omega
    refine .inr ⟨⟨_, hlt'⟩, rfl, ?_⟩
    rcases hl with hl | hl
    · right
      rw [e0, co0]
      show _ ≠ ((i 1).val / 1024 * 31 + j + 1) / 31 % 8
      omega
    · by_cases h30 : j = 30
      · right
        rw [e0, co0]
        show _ ≠ ((i 1).val / 1024 * 31 + j + 1) / 31 % 8
        omega
      · left
        rw [tw_tile_nat m hg, tw_tile_nat m hg, e1, co1]
        have : ((i 1).val / 1024 * 31 + j + 1) % 31 = j + 1 := by omega
        show _ ≠ tile (gs m) (((i 1).val / 1024 * 31 + j + 1) % 31)
        rw [this]
        exact fun hc => hl hc.symm

/-- After the last point every element of the output array is the product of its row's expert. -/
theorem final (after : (w : Fin (cfgT (T m) hok).W) → Fin (cfgT (T m) hok).N → ((cfgT (T m) hok).win w).block.Idx → Elt Ideal ((cfgT (T m) hok).win w).elt)
    (hL : ∀ u : Fin (cfgT (T m) hok).N, ((cfgT (T m) hok).win 3).flush u = true → RlI m u (after 3 u)) (i : S12288x8192.Idx) :
    Elem m i (((rdatX (V m) (T m) hok (InvI m) (RlI m) 0).withAfter after).arrAt 3 (cfgT (T m) hok).N i) := by
  refine Dat.arrAt_forall_of_cover ((rdatX (V m) (T m) hok (InvI m) (RlI m) 0).withAfter after) 3 (fun i v => Elem m i v) ?_ ?_ i
  · intro t hf (y : S512x1024.Idx)
    have key := fun r q i h0 h1 => flushed_elem m hok hg t hf (after 3 t) (hL t hf) r q i h0 h1
    have hy0 : (y 0).val < 512 := (y 0).isLt
    have hy1 : (y 1).val < 1024 := (y 1).isLt
    have e : (((cfgT (T m) hok).win 3).xinj ((cfgT (T m) hok).grid.coords t) y : S512x1024.Idx) = ValueIdx.ix2 (⟨(y 0).val, hy0⟩ : Fin 512) (⟨(y 1).val, hy1⟩ : Fin 1024) := by
      funext a
      match a with
      | ⟨0, _⟩ => rfl
      | ⟨1, _⟩ => rfl
    have h := key (⟨(y 0).val, hy0⟩ : Fin 512) (⟨(y 1).val, hy1⟩ : Fin 1024) (((((cfgT (T m) hok).win 3).blk t).view.emb y : S12288x8192.Idx)) ?_ ?_
    · rw [← e] at h
      exact h
    · blk_simp
      rw [index3, tr3_eq]
      exact (show (tw (T m) 0 (grid0.coords t)).toNat * 512 + (y 0).val = _ by rw [tw_tile_nat m hg])
    · blk_simp
      rw [index3, tr3_eq]
      rfl
  · intro (i : S12288x8192.Idx)
    obtain ⟨t, hf, h0, h1⟩ := cover3 m hok hg i
    refine ⟨t, hf, ?_⟩
    refine (Window.emb_mem_blk_iff ((cfgT (T m) hok).win 3) t i).mpr fun a => ?_
    rw [index3, tr3_eq]
    have hi0 : (i 0).val < 12288 := (i 0).isLt
    have hi1 : (i 1).val < 8192 := (i 1).isLt
    match a with
    | ⟨0, _⟩ =>
      exact (show (tw (T m) 0 (grid0.coords t)).toNat * 512 ≤ (i 0).val ∧ (i 0).val < (tw (T m) 0 (grid0.coords t)).toNat * 512 + 512 by
        rw [tw_tile_nat m hg]; omega)
    | ⟨1, _⟩ =>
      exact (show (grid0.coords t 0).val * 1024 ≤ (i 1).val ∧ (i 1).val < (grid0.coords t 0).val * 1024 + 1024 by omega)

end Pt
end Cert.KernelIdeal.Hand
-- ==== Proof.KVal.lean ====
/-
  The kernel's run, over the extended reals: every element of the output ends as the product of its row's expert.
-/
module

public import proofs.«01_k».proof.Proof.Final

@[expose] public section

set_option maxRecDepth 16384
set_option maxHeartbeats 400000

noncomputable section

namespace Cert.KernelIdeal.Hand

open Cert.KernelIdeal Cert.KernelIdeal.Gen Cert.Sched
open Idealize.ShloMosaic Idealize.ShloMosaic.TcCoe
open Idealize.SL Idealize.SL.Sem
open Idealize.ShloMosaic.Pipeline (RDat Dat Window)

variable (m : (ℓ : Loc nD τ sig) → Buf (Elt Ideal) ℓ)

attribute [local irreducible] V

/-- Every run of the kernel ends with each output element the product of its row's expert and the arguments as they were. -/
theorem run_elem (ρ : Dev nD → PrngReg) (hg : cs (gs m) 8 = 12288) :
    θ_run (defs (F := Ideal)) (onTc (τ := τ) (main (F := Ideal))) ⟨m, fun _ => 0, ρ⟩ (fun r => ∀ c : Dev nD,
      (∀ i : S12288x8192.Idx, Elem m i ((r.2.mem ((c.tc : Thread nD τ).loc main_v77) : S12288x8192.Idx → EReal) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ⟨?_, args_of m (ok_of m hg) _ _ r h.1 c⟩)
    (run m ρ (ok_of m hg) (chk_of m hg) (InvI m) (fun B t e h => absurd h (Nat.succ_ne_zero _)) (RlI m)
      (fun c => by obtain rfl : c = 0 := Subsingleton.elim _ _; exact stepI m (ok_of m hg) hg))
  obtain rfl : c = 0 := Subsingleton.elim _ _
  obtain ⟨after, hL, hA⟩ := h.1.exists_exact 0
  intro i
  have h3 := final m (ok_of m hg) hg after
    (fun u hf => Dat.toRRel_leaves (datX (V m) (T m) (ok_of m hg) (InvI m) 0) (fgt := fgt (T m) (ok_of m hg))
      (Rl := RlW (T m) (ok_of m hg) (RlI m)) (w := 3) rfl (hL 3 u hf)) i
  rw [← hA 3] at h3
  exact h3

end Cert.KernelIdeal.Hand
-- ==== Proof.RefTail.lean ====
/-
  The reference's result as one term of its arguments: the operations after the call, stretch by stretch.
-/
module

public import proofs.«01_k».proof.Proof.Gen.ReferenceIdeal.Frame
public import Idealize.ShloMosaic.Lib.StableHlo.ReadAt
public import Idealize.ShloMosaic.Lib.Routing.OpsSearch

@[expose] public section

set_option maxRecDepth 16384
set_option maxHeartbeats 1000000

noncomputable section

namespace Cert.ReferenceIdeal.Hand

open Cert.ReferenceIdeal Cert.ReferenceIdeal.Gen
open Idealize.ShloMosaic Idealize.ShloMosaic.TcCoe

variable {F : FTy → Type} [FloatOps F]

/-- The weights times their blocks' scales. -/
def wdq (w : FVec F S8x5120x8192 .bf16) (s : FVec F S8x40x64 .f32) : FVec F S8x5120x8192 .bf16 :=
  shapeCast S8x5120x8192 (mulf (shapeCast S8x40x128x64x128 w shapeCasts_S8x5120x8192_S8x40x128x64x128)
    (broadcastInDim S8x40x128x64x128 ![0, 1, 2, 3, 4] bcast_S8x40x1x64x1_S8x40x128x64x128_0_1_2_3_4
      (broadcastInDim S8x40x1x64x1 ![0, 1, 3] bcast_S8x40x64_S8x40x1x64x1_0_1_3 (truncf .bf16 s bitsLt_bf16_f32)))) shapeCasts_S8x40x128x64x128_S8x5120x8192

/-- The groups' ends. -/
def ends (g : IVec S8 32) : IVec S8 32 :=
  Host.reduceWindow IntOp.addi ![8] ![1] ![7] ![0] g (broadcastInDim S_ ![] bcast_S_S_ (constantI S_ 32 0#32)) reduceWindows_S8_S8_w8s1p7_0 h_S_

/-- Along a row, an expert's number. -/
def alongE (x : IVec S8 32) : IVec S8x12288 32 := broadcastInDim S8x12288 ![0, 1] bcast_S8x1_S8x12288_0_1 (broadcastInDim S8x1 ![0] bcast_S8_S8x1_0 x)
/-- Along an expert, a row's number. -/
def alongR (x : IVec S12288 32) : IVec S8x12288 32 := broadcastInDim S8x12288 ![0, 1] bcast_S1x12288_S8x12288_0_1 (broadcastInDim S1x12288 ![1] bcast_S12288_S1x12288_1 x)

/-- Whether a row is in an expert's group. -/
def inside (row : IVec S12288 32) (en g : IVec S8 32) : IVec S8x12288 1 :=
  andi (cmpi .sge (alongR row) (alongE (subi en g))) (cmpi .slt (alongR row) (alongE en))

/-- The activations of each expert's group, zero elsewhere. -/
def xe (x : FVec F S1x12288x5120 .bf16) (b : IVec S8x12288x1 1) (z : IVec S_ 32) : FVec F S8x12288x5120 .bf16 :=
  select (broadcastInDim S8x12288x5120 ![0, 1, 2] bcast_S8x12288x1_S8x12288x5120_0_1_2 b)
    (broadcastInDim S8x12288x5120 ![0, 1, 2] bcast_S1x12288x5120_S8x12288x5120_0_1_2 x)
    (broadcastInDim S8x12288x5120 ![] bcast_S_S8x12288x5120 (sitofp .bf16 z))

/-- The product over experts and rows of the weights. -/
def dotE (x : FVec F S8x12288x5120 .bf16) (w : FVec F S8x5120x8192 .bf16) : FVec F S12288x8192 .bf16 :=
  truncf .bf16 (Host.dotGeneral dot_S8x12288x5120_S8x5120x8192_S12288x8192_02_01_1_2_n_n none x w : FVec F S12288x8192 .f32) bitsLt_bf16_f32

variable (u : Valuation τ sig (Elt F))

theorem t0_v6 : (StableHlo.after hostOps1 u (Proc.devRef .tc main_v6) : FVec F S8x5120x8192 .bf16)
    = wdq (u (Proc.devRef .tc main_v0) : FVec F S8x5120x8192 .bf16) (u (Proc.devRef .tc main_arg3) : FVec F S8x40x64 .f32) := by
  unfold wdq
  after_reads_simp
  try rfl
theorem t0_v7 : (StableHlo.after hostOps1 u (Proc.devRef .tc main_v7) : IVec S12288 32) = iotaInDim S12288 32 0 := by after_reads_simp
theorem t0_arg0 : StableHlo.after hostOps1 u (Proc.devRef .tc main_arg0) = u (Proc.devRef .tc main_arg0) := by after_reads_simp
theorem t0_arg1 : StableHlo.after hostOps1 u (Proc.devRef .tc main_arg1) = u (Proc.devRef .tc main_arg1) := by after_reads_simp

theorem t1_v8 : (StableHlo.after hostOps1_1 u (Proc.devRef .tc main_v8) : IVec S8 32) = ends (u (Proc.devRef .tc main_arg1) : IVec S8 32) := by
  unfold ends
  after_reads_simp
  simp -implicitDefEqProofs only [StableHlo.TRef.toBuf, StableHlo.TRef.ofBuf, cast_cast, cast_eq]
theorem t1_v6 : StableHlo.after hostOps1_1 u (Proc.devRef .tc main_v6) = u (Proc.devRef .tc main_v6) := by after_reads_simp
theorem t1_v7 : StableHlo.after hostOps1_1 u (Proc.devRef .tc main_v7) = u (Proc.devRef .tc main_v7) := by after_reads_simp
theorem t1_arg0 : StableHlo.after hostOps1_1 u (Proc.devRef .tc main_arg0) = u (Proc.devRef .tc main_arg0) := by after_reads_simp
theorem t1_arg1 : StableHlo.after hostOps1_1 u (Proc.devRef .tc main_arg1) = u (Proc.devRef .tc main_arg1) := by after_reads_simp

theorem t2_v21 : (StableHlo.after hostOps1_2 u (Proc.devRef .tc main_v21) : IVec S8x12288x1 1)
    = broadcastInDim S8x12288x1 ![0, 1] bcast_S8x12288_S8x12288x1_0_1
        (inside (u (Proc.devRef .tc main_v7) : IVec S12288 32) (u (Proc.devRef .tc main_v8) : IVec S8 32) (u (Proc.devRef .tc main_arg1) : IVec S8 32)) := by
  unfold inside alongE alongR
  after_reads_simp
theorem t2_v22 : (StableHlo.after hostOps1_2 u (Proc.devRef .tc main_v22) : FVec F S1x12288x5120 .bf16)
    = broadcastInDim S1x12288x5120 ![1, 2] bcast_S12288x5120_S1x12288x5120_1_2 (u (Proc.devRef .tc main_arg0) : FVec F S12288x5120 .bf16) := by
  after_reads_simp
theorem t2_c : (StableHlo.after hostOps1_2 u (Proc.devRef .tc main_c) : IVec S_ 32) = constantI S_ 32 0#32 := by after_reads_simp
theorem t2_v6 : StableHlo.after hostOps1_2 u (Proc.devRef .tc main_v6) = u (Proc.devRef .tc main_v6) := by after_reads_simp

theorem t3_v23 : (StableHlo.after hostOps1_3 u (Proc.devRef .tc main_v23) : FVec F S8x12288x5120 .bf16)
    = xe (u (Proc.devRef .tc main_v22) : FVec F S1x12288x5120 .bf16) (u (Proc.devRef .tc main_v21) : IVec S8x12288x1 1) (u (Proc.devRef .tc main_c) : IVec S_ 32) := by
  unfold xe
  after_reads_simp
  simp -implicitDefEqProofs only [StableHlo.TRef.toBuf, StableHlo.TRef.ofBuf, cast_cast, cast_eq]
theorem t3_v6 : StableHlo.after hostOps1_3 u (Proc.devRef .tc main_v6) = u (Proc.devRef .tc main_v6) := by after_reads_simp

theorem t4_v25 : (StableHlo.after hostOps1_4 u (Proc.devRef .tc main_v25) : FVec F S12288x8192 .bf16)
    = dotE (u (Proc.devRef .tc main_v23) : FVec F S8x12288x5120 .bf16) (u (Proc.devRef .tc main_v6) : FVec F S8x5120x8192 .bf16) := by
  unfold dotE
  after_reads_simp

/-- The result of the operations after the call. -/
theorem tail_v25 : (StableHlo.after ([hostOps1, hostOps1_1, hostOps1_2, hostOps1_3, hostOps1_4] : List (List (HloOp τ sig (Elt F)))).flatten u (Proc.devRef .tc main_v25) : FVec F S12288x8192 .bf16)
    = dotE (xe (broadcastInDim S1x12288x5120 ![1, 2] bcast_S12288x5120_S1x12288x5120_1_2 (u (Proc.devRef .tc main_arg0) : FVec F S12288x5120 .bf16))
        (broadcastInDim S8x12288x1 ![0, 1] bcast_S8x12288_S8x12288x1_0_1
          (inside (iotaInDim S12288 32 0) (ends (u (Proc.devRef .tc main_arg1) : IVec S8 32)) (u (Proc.devRef .tc main_arg1) : IVec S8 32)))
        (constantI S_ 32 0#32))
      (wdq (u (Proc.devRef .tc main_v0) : FVec F S8x5120x8192 .bf16) (u (Proc.devRef .tc main_arg3) : FVec F S8x40x64 .f32)) := by
  have hfl : ([hostOps1, hostOps1_1, hostOps1_2, hostOps1_3, hostOps1_4] : List (List (HloOp τ sig (Elt F)))).flatten
      = hostOps1 ++ (hostOps1_1 ++ (hostOps1_2 ++ (hostOps1_3 ++ hostOps1_4))) := rfl
  rw [hfl, StableHlo.after_append, StableHlo.after_append, StableHlo.after_append, StableHlo.after_append,
    t4_v25, t3_v23, t3_v6, t2_v21, t2_v22, t2_c, t2_v6, t1_v8, t1_v6, t1_v7, t1_arg0, t1_arg1, t0_v6, t0_v7, t0_arg0, t0_arg1]

end Cert.ReferenceIdeal.Hand
-- ==== Proof.RefVal.lean ====
/-
  The reference's operations after the call, over the extended reals, element by element: the result's element is the
  product of its row's expert.
-/
module

public import proofs.«01_k».proof.Proof.RefTail
public import proofs.«01_k».proof.Proof.Spec
public import proofs.«01_k».proof.Proof.Tab
public import Idealize.ShloMosaic.Lib.TwoAxisContraction
public import Idealize.ShloMosaic.PureOps.Ideal.Laws

@[expose] public section

set_option maxRecDepth 16384
set_option maxHeartbeats 400000

noncomputable section

namespace Cert.ReferenceIdeal.Hand

open Cert.ReferenceIdeal Cert.ReferenceIdeal.Gen Cert.Sched
open Idealize.ShloMosaic hiding ix1 ix2 ix3 ix4 ix5
open Idealize.ShloMosaic.Routing Idealize.ShloMosaic.ValueIdx Idealize.ShloMosaic.WordCmp
open scoped BigOperators

attribute [local irreducible] Host.reduceWindow

/-- A dequantised weight: the weight times its block's scale. -/
theorem wdq_at (w : FVec Ideal S8x5120x8192 .bf16) (s : FVec Ideal S8x40x64 .f32) (e : Fin 8) (k : Fin 5120) (C : Fin 8192) :
    wdq w s (ix3 e k C) = Spec.wt w s e k C := by
  have he := e.isLt
  have hk := k.isLt
  have hC := C.isLt
  let a1 : Fin 40 := ⟨k.val / 128, by omega⟩
  let a2 : Fin 128 := ⟨k.val % 128, by omega⟩
  let a3 : Fin 64 := ⟨C.val / 128, by omega⟩
  let a4 : Fin 128 := ⟨C.val % 128, by omega⟩
  have e35 : ((⟨5, ![8, 40, 128, 64, 128]⟩ : Shape).rowMajor (ix5 e a1 a2 a3 a4)).val = ((⟨3, ![8, 5120, 8192]⟩ : Shape).rowMajor (ix3 e k C)).val := by
    rw [Shape.rowMajor_val_five, Shape.rowMajor_val_three]
    show (((e.val * 40 + k.val / 128) * 128 + k.val % 128) * 64 + C.val / 128) * 128 + C.val % 128 = (e.val * 5120 + k.val) * 8192 + C.val
    omega
  unfold wdq Spec.wt
  refine (shapeCast_apply _ _ (ix3 e k C) (ix5 e a1 a2 a3 a4) e35).trans ?_
  refine congrArg₂ (fun x y : EReal => x * y) (shapeCast_apply w _ (ix5 e a1 a2 a3 a4) (ix3 e k C) e35.symm) ?_
  refine (broadcastInDim_apply _ _ _ (ix5 e a1 a2 a3 a4) (ix5 e a1 (0 : Fin 1) a3 (0 : Fin 1)) fun a => ?_).trans ?_
  · match a with
    | ⟨0, _⟩ => rfl
    | ⟨1, _⟩ => rfl
    | ⟨2, _⟩ => rfl
    | ⟨3, _⟩ => rfl
    | ⟨4, _⟩ => rfl
  · refine (broadcastInDim_apply _ _ _ (ix5 e a1 (0 : Fin 1) a3 (0 : Fin 1)) (ix3 e a1 a3) fun a => ?_).trans rfl
    match a with
    | ⟨0, _⟩ => rfl
    | ⟨1, _⟩ => rfl
    | ⟨2, _⟩ => rfl

/-- Broadcast along the rows: the expert's entry. -/
theorem alongE_at (x : IVec S8 32) (e : Fin 8) (R : Fin 12288) : alongE x (ix2 e R) = x (ix1 e) := by
  unfold alongE
  refine (broadcastInDim_apply _ _ _ (ix2 e R) (ix2 e (0 : Fin 1)) fun a => ?_).trans ?_
  · match a with
    | ⟨0, _⟩ => rfl
    | ⟨1, _⟩ => rfl
  · refine broadcastInDim_apply _ _ _ (ix2 e (0 : Fin 1)) (ix1 e) fun a => ?_
    match a with
    | ⟨0, _⟩ => rfl

/-- Broadcast along the experts: the row's entry. -/
theorem alongR_at (x : IVec S12288 32) (e : Fin 8) (R : Fin 12288) : alongR x (ix2 e R) = x (ix1 R) := by
  unfold alongR
  refine (broadcastInDim_apply _ _ _ (ix2 e R) (ix2 (0 : Fin 1) R) fun a => ?_).trans ?_
  · match a with
    | ⟨0, _⟩ => rfl
    | ⟨1, _⟩ => rfl
  · refine broadcastInDim_apply _ _ _ (ix2 (0 : Fin 1) R) (ix1 R) fun a => ?_
    match a with
    | ⟨0, _⟩ => rfl

section Grp
variable (g : IVec S8 32) (hg : cs (Tab.G g) 8 = 12288)
include hg

/-- A group's size, as a word. -/
theorem g_at (e : Fin 8) : g (ix1 e) = BitVec.ofNat 32 (Tab.G g e.val) := by
  unfold Tab.G; rw [dif_pos e.isLt]; exact (Tab.ofNat_toNat32 _).symm

/-- A group's end: the sum of the sizes up to it. -/
theorem ends_at (e : Fin 8) : ends g (ix1 e) = BitVec.ofNat 32 (cs (Tab.G g) (e.val + 1)) := by
  unfold ends
  exact cumsum1 (N := 8) (Nm1 := 7) rfl g (Tab.G g) (g_at g hg) _ (bc0 _ _ _) _ _ e

/-- A group's start: the sum of the sizes before it. -/
theorem starts_at (e : Fin 8) : subi (ends g) g (ix1 e) = BitVec.ofNat 32 (cs (Tab.G g) e.val) := by
  rw [subi_ap, ends_at g hg, g_at g hg, ofNat32_sub (by rw [cs_succ]; omega), cs_succ, Nat.add_sub_cancel]

/-- The mask at an expert and a row: whether the row is in the expert's group. -/
theorem inside_at (e : Fin 8) (R : Fin 12288) :
    inside (iotaInDim S12288 32 0) (ends g) g (ix2 e R) = BitVec.ofBool (decide (cs (Tab.G g) e.val ≤ R.val ∧ R.val < cs (Tab.G g) (e.val + 1))) := by
  have h1 : cs (Tab.G g) e.val ≤ 12288 := hg ▸ cs_mono _ (by have := e.isLt; omega)
  have h2 : cs (Tab.G g) (e.val + 1) ≤ 12288 := hg ▸ cs_mono _ (by have := e.isLt; omega)
  have hR := R.isLt
  have e1 : inside (iotaInDim S12288 32 0) (ends g) g (ix2 e R)
      = IntOp.andi (IntOp.cmpi .sge (alongR (iotaInDim S12288 32 0) (ix2 e R)) (alongE (subi (ends g) g) (ix2 e R)))
        (IntOp.cmpi .slt (alongR (iotaInDim S12288 32 0) (ix2 e R)) (alongE (ends g) (ix2 e R))) := rfl
  rw [e1, alongR_at, alongE_at, alongE_at, starts_at g hg, ends_at g hg,
    show iotaInDim S12288 32 0 (ix1 R) = BitVec.ofNat 32 R.val from rfl,
    cmpi_sge_ofNat (w := 32) (by omega) (by omega), cmpi_slt_ofNat (w := 32) (by omega) (by omega), andi_ofBool]
  congr 1
  simp [Bool.decide_and]

/-- The activations of an expert's group. -/
theorem xe_at (x : FVec Ideal S12288x5120 .bf16) (e : Fin 8) (R : Fin 12288) (k : Fin 5120) :
    xe (broadcastInDim S1x12288x5120 ![1, 2] bcast_S12288x5120_S1x12288x5120_1_2 x)
        (broadcastInDim S8x12288x1 ![0, 1] bcast_S8x12288_S8x12288x1_0_1 (inside (iotaInDim S12288 32 0) (ends g) g))
        (constantI S_ 32 0#32) (ix3 e R k)
      = if cs (Tab.G g) e.val ≤ R.val ∧ R.val < cs (Tab.G g) (e.val + 1) then (x (ix2 R k) : EReal) else (0 : EReal) := by
  have hb : broadcastInDim S8x12288x5120 ![0, 1, 2] bcast_S8x12288x1_S8x12288x5120_0_1_2
      (broadcastInDim S8x12288x1 ![0, 1] bcast_S8x12288_S8x12288x1_0_1 (inside (iotaInDim S12288 32 0) (ends g) g)) (ix3 e R k)
      = BitVec.ofBool (decide (cs (Tab.G g) e.val ≤ R.val ∧ R.val < cs (Tab.G g) (e.val + 1))) := by
    refine Eq.trans ?_ (inside_at g hg e R)
    refine (broadcastInDim_apply _ _ _ (ix3 e R k) (ix3 e R (0 : Fin 1)) fun a => ?_).trans ?_
    · match a with
      | ⟨0, _⟩ => rfl
      | ⟨1, _⟩ => rfl
      | ⟨2, _⟩ => rfl
    · refine broadcastInDim_apply _ _ _ (ix3 e R (0 : Fin 1)) (ix2 e R) fun a => ?_
      match a with
      | ⟨0, _⟩ => rfl
      | ⟨1, _⟩ => rfl
  have hx : broadcastInDim S8x12288x5120 ![0, 1, 2] bcast_S1x12288x5120_S8x12288x5120_0_1_2
      (broadcastInDim S1x12288x5120 ![1, 2] bcast_S12288x5120_S1x12288x5120_1_2 x) (ix3 e R k) = x (ix2 R k) := by
    refine (broadcastInDim_apply _ _ _ (ix3 e R k) (ix3 (0 : Fin 1) R k) fun a => ?_).trans ?_
    · match a with
      | ⟨0, _⟩ => rfl
      | ⟨1, _⟩ => rfl
      | ⟨2, _⟩ => rfl
    · refine broadcastInDim_apply _ _ _ (ix3 (0 : Fin 1) R k) (ix2 R k) fun a => ?_
      match a with
      | ⟨0, _⟩ => rfl
      | ⟨1, _⟩ => rfl
  have hz : broadcastInDim S8x12288x5120 ![] bcast_S_S8x12288x5120 (sitofp (F := Ideal) .bf16 (constantI S_ 32 0#32)) (ix3 e R k) = (0 : EReal) := by
    refine (bc0 _ _ _).trans ?_
    rw [sitofp_apply]
    show (((0#32 : BitVec 32).toInt : ℝ) : EReal) = 0
    simp
  unfold xe
  rw [select_apply, hb, hx, hz]
  by_cases h : cs (Tab.G g) e.val ≤ R.val ∧ R.val < cs (Tab.G g) (e.val + 1)
  · rw [if_pos h, decide_eq_true h]; exact WordCmp.select_one _ _
  · rw [if_neg h, decide_eq_false h]; exact WordCmp.select_zero _ _

end Grp

/-- The product over experts and rows of the weights, at an element. -/
theorem dotE_at (x : FVec Ideal S8x12288x5120 .bf16) (w : FVec Ideal S8x5120x8192 .bf16) (R : Fin 12288) (C : Fin 8192) :
    dotE x w (ix2 R C) = ∑ e : Fin 8, ∑ k : Fin 5120, (x (ix3 e R k) * w (ix3 e k C) : EReal) := by
  let D := dot_S8x12288x5120_S8x5120x8192_S12288x8192_02_01_1_2_n_n
  have hr : D.contr.rank = 2 := rfl
  have c0 : D.contr.size ⟨0, by omega⟩ = 8 := rfl
  have c1 : D.contr.size ⟨1, by omega⟩ = 5120 := rfl
  refine (Ideal.dotGeneral_apply (φ₁ := .bf16) (φ₂ := .bf16) D none .single x w (ix2 R C)).trans ?_
  rw [sum_contr2 D 8 5120 hr c0 c1]
  refine Finset.sum_congr rfl fun e _ => Finset.sum_congr rfl fun k _ => ?_
  have h0 := contrEquiv2_symm_val0 D 8 5120 hr c0 c1 (e, k)
  have h1 := contrEquiv2_symm_val1 D 8 5120 hr c0 c1 (e, k)
  have el : D.lhsIdx (ix2 R C) ((contrEquiv2 D 8 5120 hr c0 c1).symm (e, k)) = ix3 e R k := by
    funext a; apply Fin.ext
    match a with
    | ⟨0, _⟩ => exact h0
    | ⟨1, _⟩ => rfl
    | ⟨2, _⟩ => exact h1
  have er : D.rhsIdx (ix2 R C) ((contrEquiv2 D 8 5120 hr c0 c1).symm (e, k)) = ix3 e k C := by
    funext a; apply Fin.ext
    match a with
    | ⟨0, _⟩ => exact h0
    | ⟨1, _⟩ => exact h1
    | ⟨2, _⟩ => rfl
  rw [el, er]

/-- The result at an element: the product of the row's expert. -/
theorem result_at (x : FVec Ideal S12288x5120 .bf16) (g : IVec S8 32) (hg : cs (Tab.G g) 8 = 12288) (w : FVec Ideal S8x5120x8192 .bf16)
    (s : FVec Ideal S8x40x64 .f32) (e : Fin 8) (R : Fin 12288) (C : Fin 8192) (h1 : cs (Tab.G g) e.val ≤ R.val)
    (h2 : R.val < cs (Tab.G g) (e.val + 1)) :
    dotE (xe (broadcastInDim S1x12288x5120 ![1, 2] bcast_S12288x5120_S1x12288x5120_1_2 x)
        (broadcastInDim S8x12288x1 ![0, 1] bcast_S8x12288_S8x12288x1_0_1 (inside (iotaInDim S12288 32 0) (ends g) g))
        (constantI S_ 32 0#32)) (wdq w s) (ix2 R C) = Spec.prod x w s e R C := by
  rw [dotE_at, Finset.sum_eq_single e]
  · unfold Spec.prod
    refine Finset.sum_congr rfl fun k _ => ?_
    rw [xe_at g hg, if_pos ⟨h1, h2⟩, wdq_at]
  · intro e' _ hne
    refine Finset.sum_eq_zero fun k _ => ?_
    rw [xe_at g hg, if_neg (fun h => hne (Fin.ext (expert_unique (Tab.G g) hg h.1 h.2 h1 h2))), zero_mul]
  · intro h; exact absurd (Finset.mem_univ e) h

end Cert.ReferenceIdeal.Hand
-- ==== Proof.RefRun.lean ====
/-
  The reference's run, over the extended reals: every element of its result ends as the product of its row's expert.
-/
module

public import proofs.«01_k».proof.Proof.RefVal
public import Idealize.ShloMosaic.Lib.Pipeline.ValueKit

@[expose] public section

set_option maxRecDepth 16384
set_option maxHeartbeats 400000

noncomputable section

namespace Cert.ReferenceIdeal.Hand

open Cert.ReferenceIdeal Cert.ReferenceIdeal.Gen Cert.Sched
open Idealize.ShloMosaic Idealize.ShloMosaic.TcCoe
open Idealize.SL Idealize.SL.Sem
open Idealize.ShloMosaic.Pipeline (Dat Window)

variable (m : (ℓ : Loc nD τ sig) → Buf (Elt Ideal) ℓ)

/-- What the call's body leaves, over the extended reals: what it loads. -/
theorem out_id (x : FVec Ideal S8x5120x8192 .fp8e4m3) : @Eq (S8x5120x8192.Idx → EReal) (out0_1 (F := Ideal) x) x := by
  have hz : (![0, 0, 0] : Fin 3 → Nat) = fun _ => 0 := by
    funext a
    match a with
    | ⟨0, _⟩ => rfl
    | ⟨1, _⟩ => rfl
    | ⟨2, _⟩ => rfl
  unfold out0_1 k0_pay1
  refine (View.canon_unit_zero hz _ _).trans ?_
  rw [View.ld_unit_zero hz]
  rfl

/-- The call's one block is its whole result. -/
theorem whole1 : (cfg0.win 1).WholeAt t0_0 := by decide +kernel

/-- The weights' one block is the whole array. -/
theorem emb_at (j : S8x5120x8192.Idx) : @Eq S8x5120x8192.Idx (((cfg0.win 0).blk t0_0).view.emb j) j := by
  funext a
  apply Fin.ext
  have h : ∀ a : Fin 3, win0_0.index t0_0 a = 0 := by decide +kernel
  blk_simp
  refine (congrArg (fun n => n * win0_0.size a + (j a).val) (h a)).trans ?_
  show 0 * _ + _ = _
  rw [Nat.zero_mul, Nat.zero_add]

/-- The weights' block is the weights. -/
theorem iblk_at (c : Dev nD) (j : S8x5120x8192.Idx) :
    @Eq EReal (iblk m c 0 t0_0 j) ((m ((c : Thread nD τ).loc main_arg2) : FVec Ideal S8x5120x8192 .fp8e4m3) j) := by
  unfold iblk
  rw [View.read_apply]
  exact congrArg (m ((c : Thread nD τ).loc main_arg2)) (emb_at j)

/-- Equal arguments give equal results. -/
theorem res_congr {x x' : FVec Ideal S12288x5120 .bf16} {g g' : IVec S8 32} {w w' : FVec Ideal S8x5120x8192 .bf16} {s s' : FVec Ideal S8x40x64 .f32}
    (h0 : x = x') (h1 : g = g') (h2 : w = w') (h3 : s = s') :
    dotE (xe (broadcastInDim S1x12288x5120 ![1, 2] bcast_S12288x5120_S1x12288x5120_1_2 x)
        (broadcastInDim S8x12288x1 ![0, 1] bcast_S8x12288_S8x12288x1_0_1 (inside (iotaInDim S12288 32 0) (ends g) g))
        (constantI S_ 32 0#32)) (wdq w s)
      = dotE (xe (broadcastInDim S1x12288x5120 ![1, 2] bcast_S12288x5120_S1x12288x5120_1_2 x')
        (broadcastInDim S8x12288x1 ![0, 1] bcast_S8x12288_S8x12288x1_0_1 (inside (iotaInDim S12288 32 0) (ends g') g'))
        (constantI S_ 32 0#32)) (wdq w' s') := by
  subst h0 h1 h2 h3; rfl

/-- What the call leaves in its one block. -/
theorem after_at (c : Dev nD) (j : S8x5120x8192.Idx) :
    @Eq EReal ((dats m 0 c).after 1 t0_0 j) ((m ((c : Thread nD τ).loc main_arg2) : FVec Ideal S8x5120x8192 .fp8e4m3) j) := by
  rw [after0_1]
  exact (congrFun (out_id (iblk m c 0 t0_0)) j).trans (iblk_at m c j)

/-- The call converts the weights: over the extended reals its result is its argument. -/
theorem arr1 (c : Dev nD) : @Eq (S8x5120x8192.Idx → EReal) ((dats m 0 c).arrAt 1 cfg0.N) (m ((c : Thread nD τ).loc main_arg2)) := by
  funext i
  have h := Dat.arrAt_emb_eq_after_last (dats m 0 c) 1 t0_0 whole1 i
  refine h.trans ?_
  exact after_at m c i

/-- The run ends with the result as the operations after the call leave it. -/
theorem run_res (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25)
          = Pipeline.afterTail₀ cfgs (dats m) 0 (V0 m) [hostOps1, hostOps1_1, hostOps1_2, hostOps1_3, hostOps1_4] c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun r h c => ⟨(h.1 c).2 main_v25 (Pipeline.mem_restRefs_of main_v25 (by decide) (by decide)), h.2 c⟩)
    (θ_run_and (run_main m ρ) (unchanged m ρ))

/-- The result, of the arguments. -/
theorem tail_eq (c : Dev nD) :
    @Eq (FVec Ideal S12288x8192 .bf16) (Pipeline.afterTail₀ cfgs (dats m) 0 (V0 m) [hostOps1, hostOps1_1, hostOps1_2, hostOps1_3, hostOps1_4] c main_v25)
      (dotE (xe (broadcastInDim S1x12288x5120 ![1, 2] bcast_S12288x5120_S1x12288x5120_1_2 (m ((c : Thread nD τ).loc main_arg0) : FVec Ideal S12288x5120 .bf16))
        (broadcastInDim S8x12288x1 ![0, 1] bcast_S8x12288_S8x12288x1_0_1
          (inside (iotaInDim S12288 32 0) (ends (m ((c : Thread nD τ).loc main_arg1) : IVec S8 32)) (m ((c : Thread nD τ).loc main_arg1) : IVec S8 32)))
        (constantI S_ 32 0#32))
      (wdq (m ((c : Thread nD τ).loc main_arg2) : FVec Ideal S8x5120x8192 .bf16) (m ((c : Thread nD τ).loc main_arg3) : FVec Ideal S8x40x64 .f32))) := by
  have h0 := (Pipeline.withArrays_of_ne spec0 c (V0 m c) (fun w => (dats m 0 c).arrAt w cfg0.N) main_arg0 (by exact (by decide : ∀ w, Pipeline.arrRef spec0 w ≠ main_arg0))).trans (V_main_arg0 m c)
  have h1 := (Pipeline.withArrays_of_ne spec0 c (V0 m c) (fun w => (dats m 0 c).arrAt w cfg0.N) main_arg1 (by exact (by decide : ∀ w, Pipeline.arrRef spec0 w ≠ main_arg1))).trans (V_main_arg1 m c)
  have h3 := (Pipeline.withArrays_of_ne spec0 c (V0 m c) (fun w => (dats m 0 c).arrAt w cfg0.N) main_arg3 (by exact (by decide : ∀ w, Pipeline.arrRef spec0 w ≠ main_arg3))).trans (V_main_arg3 m c)
  have hv := (Pipeline.withArrays_arr spec0 (by decide) c (V0 m c) (fun w => (dats m 0 c).arrAt w cfg0.N) 1).trans (arr1 m c)
  unfold Pipeline.afterTail₀
  refine (tail_v25 (F := Ideal) (Pipeline.withArrays spec0 c (V0 m c) fun w => (dats m 0 c).arrAt w cfg0.N)).trans ?_
  exact res_congr h0 h1 hv h3

end Cert.ReferenceIdeal.Hand
-- ==== Proof.Alg.lean ====
/-
  The kernel and the reference give the same result over the extended reals.
-/
module

public import proofs.«01_k».proof.Defs
public import proofs.«01_k».proof.Proof.PreG
public import proofs.«01_k».proof.Proof.KVal
public import proofs.«01_k».proof.Proof.RefRun

@[expose] public section

set_option maxRecDepth 16384
set_option maxHeartbeats 400000

noncomputable section

namespace Cert.Proof

open Idealize.ShloMosaic Idealize.ShloMosaic.TcCoe Idealize.SL.Sem

attribute [local irreducible] Cert.KernelIdeal.Hand.V

/-- An element of the kernel's result is the reference's. -/
theorem same (x : FVec Ideal Cert.ReferenceIdeal.S12288x5120 .bf16) (g : IVec Cert.ReferenceIdeal.S8 32) (hg : Sched.cs (Tab.G g) 8 = 12288)
    (w : FVec Ideal Cert.ReferenceIdeal.S8x5120x8192 .bf16) (s : FVec Ideal Cert.ReferenceIdeal.S8x40x64 .f32)
    (i : Cert.ReferenceIdeal.S12288x8192.Idx) (v : EReal)
    (hv : ∀ (e : Fin 8) (R : Fin 12288) (C : Fin 8192), R.val = (i 0).val → C.val = (i 1).val → Sched.cs (Tab.G g) e.val ≤ R.val →
      R.val < Sched.cs (Tab.G g) (e.val + 1) → v = Spec.prod x w s e R C)
    (O : Cert.ReferenceIdeal.S12288x8192.Idx → EReal)
    (hO : ∀ (e : Fin 8) (R : Fin 12288) (C : Fin 8192), Sched.cs (Tab.G g) e.val ≤ R.val → R.val < Sched.cs (Tab.G g) (e.val + 1) →
      O (ValueIdx.ix2 R C) = Spec.prod x w s e R C) : v = O i := by
  have h0 : (i 0).val < 12288 := (i 0).isLt
  have h1 : (i 1).val < 8192 := (i 1).isLt
  obtain ⟨e, he, a1, a2⟩ := Sched.expert_of (Tab.G g) hg h0
  have hi : i = ValueIdx.ix2 (⟨(i 0).val, h0⟩ : Fin 12288) (⟨(i 1).val, h1⟩ : Fin 8192) := ValueIdx.eq_ix2 i
  refine Eq.trans ?_ ((congrArg O hi).trans (hO ⟨e, he⟩ ⟨(i 0).val, h0⟩ ⟨(i 1).val, h1⟩ a1 a2)).symm
  exact hv ⟨e, he⟩ ⟨(i 0).val, h0⟩ ⟨(i 1).val, h1⟩ rfl rfl a1 a2

/-- Under the precondition the ideal kernel and the ideal reference, from the same arguments, end with the same result. -/
theorem alg : algebraic_KernelIdeal_ReferenceIdeal := by
  intro m ρ m' ρ' hpre hargs
  have hg := fillKI m hpre
  obtain ⟨b0, b1, b2, b3⟩ := hargs 0
  have hg' : Sched.cs (Tab.G (m (((0 : Dev Cert.KernelIdeal.nD) : Thread Cert.KernelIdeal.nD Cert.KernelIdeal.τ).loc Cert.KernelIdeal.main_arg1) : IVec Cert.ReferenceIdeal.S8 32)) 8 = 12288 := by
    have h := hg
    unfold KernelIdeal.Hand.gs at h
    rw [KernelIdeal.Hand.V_main_arg1] at h
    exact h
  refine ⟨fun c => Pipeline.afterTail₀ Cert.ReferenceIdeal.cfgs (Cert.ReferenceIdeal.Gen.dats m') 0 (Cert.ReferenceIdeal.Gen.V0 m')
    [Cert.ReferenceIdeal.Gen.hostOps1, Cert.ReferenceIdeal.Gen.hostOps1_1, Cert.ReferenceIdeal.Gen.hostOps1_2, Cert.ReferenceIdeal.Gen.hostOps1_3, Cert.ReferenceIdeal.Gen.hostOps1_4] c Cert.ReferenceIdeal.main_v25,
    ?_, Cert.ReferenceIdeal.Hand.run_res m' ρ'⟩
  refine (θ_run _ _ _).mono (fun r h c => ⟨?_, (h c).2⟩) (KernelIdeal.Hand.run_elem m ρ hg)
  obtain rfl : c = 0 := Subsingleton.elim _ _
  have hr := Cert.ReferenceIdeal.Hand.tail_eq m' 0
  have hE := (h 0).1
  funext i
  refine same (m (((0 : Dev Cert.KernelIdeal.nD) : Thread Cert.KernelIdeal.nD Cert.KernelIdeal.τ).loc Cert.KernelIdeal.main_arg0)) _ hg'
    (m (((0 : Dev Cert.KernelIdeal.nD) : Thread Cert.KernelIdeal.nD Cert.KernelIdeal.τ).loc Cert.KernelIdeal.main_arg2))
    (m (((0 : Dev Cert.KernelIdeal.nD) : Thread Cert.KernelIdeal.nD Cert.KernelIdeal.τ).loc Cert.KernelIdeal.main_arg3)) i _ ?_ _ ?_
  · have := hE i
    unfold KernelIdeal.Hand.Elem KernelIdeal.Hand.gs KernelIdeal.Hand.Xa KernelIdeal.Hand.Wa KernelIdeal.Hand.Sa at this
    rw [KernelIdeal.Hand.V_main_arg0, KernelIdeal.Hand.V_main_arg1, KernelIdeal.Hand.V_main_arg2, KernelIdeal.Hand.V_main_arg3] at this
    exact this
  · intro e R C a1 a2
    refine (congrFun hr _).trans ?_
    refine (congrFun (Cert.ReferenceIdeal.Hand.res_congr b0 b1 b2 b3) _).trans ?_
    exact Cert.ReferenceIdeal.Hand.result_at _ _ hg' _ _ e R C a1 a2

end Cert.Proof
-- ==== Proof.lean ====
module

public import proofs.«01_k».proof.Defs
public import proofs.«01_k».proof.Proof.PreG
public import proofs.«01_k».proof.Proof.Alg

@[expose] public section

noncomputable section

namespace Cert.Proof

open Idealize.ShloMosaic Idealize.SL.Sem Cert.Kernel

/-- The claims: the frames of the kernel, of its ideal form and of the ideal reference, the preservation
of the kernel under idealisation, and the equality of the two ideal results. -/
theorem claim : Cert.Claim := ⟨Cert.Kernel.Gen.facts, Cert.KernelIdeal.Gen.facts, Cert.ReferenceIdeal.Gen.facts, Cert.Pre_groups_fill.Gen.facts,
  frameK, frameKI, frameRI, trivial, alg⟩

end Cert.Proof

end
